-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x1x10000x128 : Shape := ⟨4, ![2, 1, 10000, 128]⟩
abbrev S2x1x10000x10000 : Shape := ⟨4, ![2, 1, 10000, 10000]⟩
abbrev S_ : Shape := ⟨0, ![]⟩
abbrev S1x10000 : Shape := ⟨2, ![1, 10000]⟩
abbrev S2x128x64 : Shape := ⟨3, ![2, 128, 64]⟩
abbrev S64x64 : Shape := ⟨2, ![64, 64]⟩
abbrev S1x10000x64 : Shape := ⟨3, ![1, 10000, 64]⟩

class Facts : Prop where
  bcast_S_S2x1x10000x128 : S_.BroadcastsInDim S2x1x10000x128 (![] : Fin 0 → Fin S2x1x10000x128.rank)
  bcast_S_S2x1x10000x10000 : S_.BroadcastsInDim S2x1x10000x10000 (![] : Fin 0 → Fin S2x1x10000x10000.rank)
  bcast_S_S2x128x64 : S_.BroadcastsInDim S2x128x64 (![] : Fin 0 → Fin S2x128x64.rank)

variable [Facts]

def fn {F : FTy → Type} [FloatOps F] (main_arg0 : FVec F S2x1x10000x128 .f32) (main_arg1 : FVec F S2x1x10000x10000 .f32) (main_arg2 : FVec F S2x1x10000x128 .f32) (main_arg3 : IVec S_ 32) (main_arg4 : FVec F S1x10000 .f32) (main_arg5 : FVec F S1x10000 .f32) (main_arg6 : FVec F S1x10000 .f32) (main_arg7 : FVec F S2x128x64 .f32) (main_arg8 : FVec F S64x64 .f32) (main_arg9 : FVec F S_ .f32) (main_arg10 : FVec F S1x10000x64 .f32) : IVec S2x1x10000x128 1 × IVec S2x1x10000x10000 1 × IVec S2x1x10000x128 1 × IVec S2x128x64 1 :=
  let main_v0 : FVec F S2x1x10000x128 .f32 := Host.absf main_arg0
  let main_cst : FVec F S_ .f32 := constant S_ .f32 0x7F800000#32
  let main_v1 : FVec F S2x1x10000x128 .f32 := broadcastInDim S2x1x10000x128 ![] bcast_S_S2x1x10000x128 main_cst
  let main_v2 : IVec S2x1x10000x128 1 := cmpf .olt main_v0 main_v1
  let main_v3 : FVec F S2x1x10000x10000 .f32 := Host.absf main_arg1
  let main_cst_0 : FVec F S_ .f32 := constant S_ .f32 0x7F800000#32
  let main_v4 : FVec F S2x1x10000x10000 .f32 := broadcastInDim S2x1x10000x10000 ![] bcast_S_S2x1x10000x10000 main_cst_0
  let main_v5 : IVec S2x1x10000x10000 1 := cmpf .olt main_v3 main_v4
  let main_v6 : FVec F S2x1x10000x128 .f32 := Host.absf main_arg2
  let main_cst_1 : FVec F S_ .f32 := constant S_ .f32 0x7F800000#32
  let main_v7 : FVec F S2x1x10000x128 .f32 := broadcastInDim S2x1x10000x128 ![] bcast_S_S2x1x10000x128 main_cst_1
  let main_v8 : IVec S2x1x10000x128 1 := cmpf .olt main_v6 main_v7
  let main_v9 : FVec F S2x128x64 .f32 := Host.absf main_arg7
  let main_cst_2 : FVec F S_ .f32 := constant S_ .f32 0x7F800000#32
  let main_v10 : FVec F S2x128x64 .f32 := broadcastInDim S2x128x64 ![] bcast_S_S2x128x64 main_cst_2
  let main_v11 : IVec S2x128x64 1 := cmpf .olt main_v9 main_v10
  (main_v2, main_v5, main_v8, main_v11)
-- ==== Kernel.lean ====
abbrev S2x1x10000x128 : Shape := ⟨4, ![2, 1, 10000, 128]⟩
abbrev S2x1x10000x10000 : Shape := ⟨4, ![2, 1, 10000, 10000]⟩
abbrev S_ : Shape := ⟨0, ![]⟩
abbrev S1x10000 : Shape := ⟨2, ![1, 10000]⟩
abbrev S2x128x64 : Shape := ⟨3, ![2, 128, 64]⟩
abbrev S64x64 : Shape := ⟨2, ![64, 64]⟩
abbrev S1x10000x64 : Shape := ⟨3, ![1, 10000, 64]⟩
abbrev S2x10000x128 : Shape := ⟨3, ![2, 10000, 128]⟩
abbrev S2x10000x10000 : Shape := ⟨3, ![2, 10000, 10000]⟩
abbrev S1x10000x128 : Shape := ⟨3, ![1, 10000, 128]⟩
abbrev S1x128x64 : Shape := ⟨3, ![1, 128, 64]⟩
abbrev S1x80x10000 : Shape := ⟨3, ![1, 80, 10000]⟩
abbrev S1x400x128 : Shape := ⟨3, ![1, 400, 128]⟩
abbrev S10000x128 : Shape := ⟨2, ![10000, 128]⟩
abbrev S128x64 : Shape := ⟨2, ![128, 64]⟩
abbrev S10000x64 : Shape := ⟨2, ![10000, 64]⟩
abbrev S80x10000 : Shape := ⟨2, ![80, 10000]⟩
abbrev S80x128 : Shape := ⟨2, ![80, 128]⟩
abbrev S1x80x128 : Shape := ⟨3, ![1, 80, 128]⟩
abbrev S10000x4 : Shape := ⟨2, ![10000, 4]⟩
abbrev S1x1 : Shape := ⟨2, ![1, 1]⟩
abbrev S64 : Shape := ⟨1, ![64]⟩
abbrev S1x64 : Shape := ⟨2, ![1, 64]⟩
abbrev S10000x1 : Shape := ⟨2, ![10000, 1]⟩
abbrev S1 : Shape := ⟨1, ![1]⟩
abbrev S1x1x1 : Shape := ⟨3, ![1, 1, 1]⟩
abbrev S4x10000 : Shape := ⟨2, ![4, 10000]⟩
abbrev S2x1x20000 : Shape := ⟨3, ![2, 1, 20000]⟩
abbrev S1x20000 : Shape := ⟨2, ![1, 20000]⟩
abbrev S1x1x20000 : Shape := ⟨3, ![1, 1, 20000]⟩

abbrev nBuf : Space → Nat
  | .hbm => 26
  | .vmem => 24
  | .smem => 0
  | _ => 0

abbrev bufTy : (tb : Table) → Fin (tcTables nBuf tb) → BufTy
  | .hbm, ⟨0, _⟩ => ⟨S2x1x10000x128, .f32⟩
  | .hbm, ⟨1, _⟩ => ⟨S2x1x10000x10000, .f32⟩
  | .hbm, ⟨2, _⟩ => ⟨S2x1x10000x128, .f32⟩
  | .hbm, ⟨3, _⟩ => ⟨S_, .i32⟩
  | .hbm, ⟨4, _⟩ => ⟨S1x10000, .f32⟩
  | .hbm, ⟨5, _⟩ => ⟨S1x10000, .f32⟩
  | .hbm, ⟨6, _⟩ => ⟨S1x10000, .f32⟩
  | .hbm, ⟨7, _⟩ => ⟨S2x128x64, .f32⟩
  | .hbm, ⟨8, _⟩ => ⟨S64x64, .f32⟩
  | .hbm, ⟨9, _⟩ => ⟨S_, .f32⟩
  | .hbm, ⟨10, _⟩ => ⟨S1x10000x64, .f32⟩
  | .hbm, ⟨11, _⟩ => ⟨S2x10000x128, .f32⟩
  | .hbm, ⟨12, _⟩ => ⟨S2x10000x128, .f32⟩
  | .hbm, ⟨13, _⟩ => ⟨S2x10000x10000, .f32⟩
  | .hbm, ⟨14, _⟩ => ⟨S2x10000x128, .f32⟩
  | .hbm, ⟨15, _⟩ => ⟨S10000x4, .f32⟩
  | .hbm, ⟨16, _⟩ => ⟨S1x1, .f32⟩
  | .hbm, ⟨17, _⟩ => ⟨S4x10000, .f32⟩
  | .hbm, ⟨18, _⟩ => ⟨S2x1x20000, .f32⟩
  | .hbm, ⟨19, _⟩ => ⟨S1x20000, .f32⟩
  | .hbm, ⟨20, _⟩ => ⟨S1x1x20000, .f32⟩
  | .hbm, ⟨21, _⟩ => ⟨S2x1x20000, .f32⟩
  | .hbm, ⟨22, _⟩ => ⟨S2x1x20000, .f32⟩
  | .hbm, ⟨23, _⟩ => ⟨S2x1x20000, .f32⟩
  | .hbm, ⟨24, _⟩ => ⟨S2x1x20000, .f32⟩
  | .hbm, ⟨25, _⟩ => ⟨S_, .f32⟩
  | .local _ .vmem, ⟨0, _⟩ => ⟨S1x10000x128, .f32⟩
  | .local _ .vmem, ⟨1, _⟩ => ⟨S1x10000x128, .f32⟩
  | .local _ .vmem, ⟨2, _⟩ => ⟨S1x10000x128, .f32⟩
  | .local _ .vmem, ⟨3, _⟩ => ⟨S1x10000x128, .f32⟩
  | .local _ .vmem, ⟨4, _⟩ => ⟨S1x128x64, .f32⟩
  | .local _ .vmem, ⟨5, _⟩ => ⟨S1x128x64, .f32⟩
  | .local _ .vmem, ⟨6, _⟩ => ⟨S1x80x10000, .f32⟩
  | .local _ .vmem, ⟨7, _⟩ => ⟨S1x80x10000, .f32⟩
  | .local _ .vmem, ⟨8, _⟩ => ⟨S1x80x10000, .f32⟩
  | .local _ .vmem, ⟨9, _⟩ => ⟨S1x80x10000, .f32⟩
  | .local _ .vmem, ⟨10, _⟩ => ⟨S1x80x10000, .f32⟩
  | .local _ .vmem, ⟨11, _⟩ => ⟨S1x80x10000, .f32⟩
  | .local _ .vmem, ⟨12, _⟩ => ⟨S1x80x10000, .f32⟩
  | .local _ .vmem, ⟨13, _⟩ => ⟨S1x80x10000, .f32⟩
  | .local _ .vmem, ⟨14, _⟩ => ⟨S1x80x10000, .f32⟩
  | .local _ .vmem, ⟨15, _⟩ => ⟨S1x80x10000, .f32⟩
  | .local _ .vmem, ⟨16, _⟩ => ⟨S1x400x128, .f32⟩
  | .local _ .vmem, ⟨17, _⟩ => ⟨S1x400x128, .f32⟩
  | .local _ .vmem, ⟨18, _⟩ => ⟨S10000x128, .f32⟩
  | .local _ .vmem, ⟨19, _⟩ => ⟨S2x10000x128, .f32⟩
  | .local _ .vmem, ⟨20, _⟩ => ⟨S64x64, .f32⟩
  | .local _ .vmem, ⟨21, _⟩ => ⟨S1x10000x64, .f32⟩
  | .local _ .vmem, ⟨22, _⟩ => ⟨S10000x4, .f32⟩
  | .local _ .vmem, ⟨23, _⟩ => ⟨S1x1, .f32⟩
  | _, _ => ⟨S2x1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem1_0 : DmaSem sig := 19
abbrev cc1_sem2_0 : DmaSem sig := 20
abbrev cc1_sem3_0 : DmaSem sig := 21
abbrev cc1_sem4_0 : DmaSem sig := 22

abbrev nD : Nat := 1
abbrev τ : Topo := Topo.v7x

variable {F : FTy → Type} [FloatOps F]

abbrev grid0 : Pipeline.Grid := ⟨2, ![2, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c0_i32 : BitVec 32 := 0#32
  let v1 : BitVec 32 := Scalar.addi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c2_i32 : BitVec 32 := 2#32
  let v1 : BitVec 32 := Scalar.addi v0 c2_i32
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c3_i32 : BitVec 32 := 3#32
  let v1 : BitVec 32 := Scalar.addi v0 c3_i32
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c4_i32 : BitVec 32 := 4#32
  let v1 : BitVec 32 := Scalar.addi v0 c4_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x80x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x80x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x80x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x80x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x80x10000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x400x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := .none

abbrev stage1_0 : Fin 1 → Memref sig .tc .vmem S2x10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x10000x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S10000x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S2x1x10000x128 : Shape := ⟨4, ![2, 1, 10000, 128]⟩
abbrev S2x1x10000x10000 : Shape := ⟨4, ![2, 1, 10000, 10000]⟩
abbrev S_ : Shape := ⟨0, ![]⟩
abbrev S1x10000 : Shape := ⟨2, ![1, 10000]⟩
abbrev S2x128x64 : Shape := ⟨3, ![2, 128, 64]⟩
abbrev S64x64 : Shape := ⟨2, ![64, 64]⟩
abbrev S1x10000x64 : Shape := ⟨3, ![1, 10000, 64]⟩
abbrev S1x1x10000x128 : Shape := ⟨4, ![1, 1, 10000, 128]⟩
abbrev S1x10000x128 : Shape := ⟨3, ![1, 10000, 128]⟩
abbrev S1x1x10000x10000 : Shape := ⟨4, ![1, 1, 10000, 10000]⟩
abbrev S1x10000x10000 : Shape := ⟨3, ![1, 10000, 10000]⟩
abbrev S1x128x64 : Shape := ⟨3, ![1, 128, 64]⟩
abbrev S128x64 : Shape := ⟨2, ![128, 64]⟩
abbrev S10000x10000 : Shape := ⟨2, ![10000, 10000]⟩
abbrev S10000x64 : Shape := ⟨2, ![10000, 64]⟩
abbrev S1x64 : Shape := ⟨2, ![1, 64]⟩
abbrev S1x1x64 : Shape := ⟨3, ![1, 1, 64]⟩
abbrev S64x1x10000 : Shape := ⟨3, ![64, 1, 10000]⟩
abbrev S1x20000 : Shape := ⟨2, ![1, 20000]⟩
abbrev S2x10000x64 : Shape := ⟨3, ![2, 10000, 64]⟩
abbrev S1x1x20000 : Shape := ⟨3, ![1, 1, 20000]⟩
abbrev S2x1x20000 : Shape := ⟨3, ![2, 1, 20000]⟩

abbrev nBuf : Space → Nat
  | .hbm => 145
  | .vmem => 0
  | .smem => 0
  | _ => 0

abbrev hbmTy0_0 (i : Nat) : BufTy := match i % 128 with
  | 0 => ⟨S2x1x10000x128, .f32⟩
  | 1 => ⟨S2x1x10000x10000, .f32⟩
  | 2 => ⟨S2x1x10000x128, .f32⟩
  | 3 => ⟨S_, .i32⟩
  | 4 => ⟨S1x10000, .f32⟩
  | 5 => ⟨S1x10000, .f32⟩
  | 6 => ⟨S1x10000, .f32⟩
  | 7 => ⟨S2x128x64, .f32⟩
  | 8 => ⟨S64x64, .f32⟩
  | 9 => ⟨S_, .f32⟩
  | 10 => ⟨S1x10000x64, .f32⟩
  | 11 => ⟨S1x1x10000x128, .f32⟩
  | 12 => ⟨S1x10000x128, .f32⟩
  | 13 => ⟨S1x1x10000x10000, .f32⟩
  | 14 => ⟨S1x10000x10000, .f32⟩
  | 15 => ⟨S1x128x64, .f32⟩
  | 16 => ⟨S128x64, .f32⟩
  | 17 => ⟨S1x10000x64, .f32⟩
  | 18 => ⟨S10000x10000, .f32⟩
  | 19 => ⟨S10000x64, .f32⟩
  | 20 => ⟨S10000x64, .f32⟩
  | 21 => ⟨S1x10000x64, .f32⟩
  | 22 => ⟨S_, .f32⟩
  | 23 => ⟨S1x10000x64, .f32⟩
  | 24 => ⟨S1x10000x64, .f32⟩
  | 25 => ⟨S_, .f32⟩
  | 26 => ⟨S1x64, .f32⟩
  | 27 => ⟨S_, .f32⟩
  | 28 => ⟨S1x64, .f32⟩
  | 29 => ⟨S1x64, .f32⟩
  | 30 => ⟨S1x64, .f32⟩
  | 31 => ⟨S1x64, .f32⟩
  | 32 => ⟨S_, .f32⟩
  | 33 => ⟨S1x64, .f32⟩
  | 34 => ⟨S1x64, .f32⟩
  | 35 => ⟨S_, .f32⟩
  | 36 => ⟨S1x64, .f32⟩
  | 37 => ⟨S1x64, .f32⟩
  | 38 => ⟨S1x1x10000x128, .f32⟩
  | 39 => ⟨S1x10000x128, .f32⟩
  | 40 => ⟨S1x1x10000x10000, .f32⟩
  | 41 => ⟨S1x10000x10000, .f32⟩
  | 42 => ⟨S1x128x64, .f32⟩
  | 43 => ⟨S128x64, .f32⟩
  | 44 => ⟨S1x10000x64, .f32⟩
  | 45 => ⟨S10000x10000, .f32⟩
  | 46 => ⟨S10000x64, .f32⟩
  | 47 => ⟨S10000x64, .f32⟩
  | 48 => ⟨S1x10000x64, .f32⟩
  | 49 => ⟨S_, .f32⟩
  | 50 => ⟨S1x10000x64, .f32⟩
  | 51 => ⟨S1x10000x64, .f32⟩
  | 52 => ⟨S1x1x64, .f32⟩
  | 53 => ⟨S1x10000x64, .f32⟩
  | 54 => ⟨S64x1x10000, .f32⟩
  | 55 => ⟨S1x10000, .f32⟩
  | 56 => ⟨S1x10000, .f32⟩
  | 57 => ⟨S1x10000, .f32⟩
  | 58 => ⟨S64x1x10000, .f32⟩
  | 59 => ⟨S1x10000, .f32⟩
  | 60 => ⟨S1x10000, .f32⟩
  | 61 => ⟨S1x10000, .f32⟩
  | 62 => ⟨S1x10000, .f32⟩
  | 63 => ⟨S1x10000, .f32⟩
  | 64 => ⟨S1x20000, .f32⟩
  | 65 => ⟨S1x1x10000x128, .f32⟩
  | 66 => ⟨S1x10000x128, .f32⟩
  | 67 => ⟨S1x1x10000x10000, .f32⟩
  | 68 => ⟨S1x10000x10000, .f32⟩
  | 69 => ⟨S1x128x64, .f32⟩
  | 70 => ⟨S128x64, .f32⟩
  | 71 => ⟨S1x10000x64, .f32⟩
  | 72 => ⟨S10000x10000, .f32⟩
  | 73 => ⟨S10000x64, .f32⟩
  | 74 => ⟨S10000x64, .f32⟩
  | 75 => ⟨S1x10000x64, .f32⟩
  | 76 => ⟨S_, .f32⟩
  | 77 => ⟨S1x10000x64, .f32⟩
  | 78 => ⟨S1x10000x64, .f32⟩
  | 79 => ⟨S_, .f32⟩
  | 80 => ⟨S1x64, .f32⟩
  | 81 => ⟨S_, .f32⟩
  | 82 => ⟨S1x64, .f32⟩
  | 83 => ⟨S1x64, .f32⟩
  | 84 => ⟨S1x64, .f32⟩
  | 85 => ⟨S1x64, .f32⟩
  | 86 => ⟨S_, .f32⟩
  | 87 => ⟨S1x64, .f32⟩
  | 88 => ⟨S1x64, .f32⟩
  | 89 => ⟨S_, .f32⟩
  | 90 => ⟨S1x64, .f32⟩
  | 91 => ⟨S1x64, .f32⟩
  | 92 => ⟨S1x1x10000x128, .f32⟩
  | 93 => ⟨S1x10000x128, .f32⟩
  | 94 => ⟨S1x1x10000x10000, .f32⟩
  | 95 => ⟨S1x10000x10000, .f32⟩
  | 96 => ⟨S1x128x64, .f32⟩
  | 97 => ⟨S128x64, .f32⟩
  | 98 => ⟨S1x10000x64, .f32⟩
  | 99 => ⟨S10000x10000, .f32⟩
  | 100 => ⟨S10000x64, .f32⟩
  | 101 => ⟨S10000x64, .f32⟩
  | 102 => ⟨S1x10000x64, .f32⟩
  | 103 => ⟨S_, .f32⟩
  | 104 => ⟨S1x10000x64, .f32⟩
  | 105 => ⟨S1x10000x64, .f32⟩
  | 106 => ⟨S1x1x64, .f32⟩
  | 107 => ⟨S1x10000x64, .f32⟩
  | 108 => ⟨S64x1x10000, .f32⟩
  | 109 => ⟨S1x10000, .f32⟩
  | 110 => ⟨S1x10000, .f32⟩
  | 111 => ⟨S1x10000, .f32⟩
  | 112 => ⟨S64x1x10000, .f32⟩
  | 113 => ⟨S1x10000, .f32⟩
  | 114 => ⟨S1x10000, .f32⟩
  | 115 => ⟨S1x10000, .f32⟩
  | 116 => ⟨S1x10000, .f32⟩
  | 117 => ⟨S1x10000, .f32⟩
  | 118 => ⟨S1x20000, .f32⟩
  | 119 => ⟨S2x10000x64, .f32⟩
  | 120 => ⟨S_, .f32⟩
  | 121 => ⟨S10000x64, .f32⟩
  | 122 => ⟨S_, .f32⟩
  | 123 => ⟨S10000x64, .f32⟩
  | 124 => ⟨S10000x64, .f32⟩
  | 125 => ⟨S1x10000x64, .f32⟩
  | 126 => ⟨S2x10000x64, .f32⟩
  | 127 => ⟨S_, .f32⟩
  | _ => ⟨S2x1x10000x128, .f32⟩

abbrev hbmTy0_1 (i : Nat) : BufTy := match i % 128 with
  | 0 => ⟨S10000x64, .f32⟩
  | 1 => ⟨S_, .f32⟩
  | 2 => ⟨S10000x64, .f32⟩
  | 3 => ⟨S10000x64, .f32⟩
  | 4 => ⟨S1x10000x64, .f32⟩
  | 5 => ⟨S1x10000x64, .f32⟩
  | 6 => ⟨S1x10000x64, .f32⟩
  | 7 => ⟨S_, .f32⟩
  | 8 => ⟨S_, .f32⟩
  | 9 => ⟨S1x10000x64, .f32⟩
  | 10 => ⟨S1x10000x64, .f32⟩
  | 11 => ⟨S_, .f32⟩
  | 12 => ⟨S_, .f32⟩
  | 13 => ⟨S_, .f32⟩
  | 14 => ⟨S1x1x20000, .f32⟩
  | 15 => ⟨S1x1x20000, .f32⟩
  | 16 => ⟨S2x1x20000, .f32⟩
  | _ => ⟨S2x1x10000x128, .f32⟩

abbrev hbmTy (i : Nat) : BufTy := match i / 128 with
  | 0 => hbmTy0_0 i
  | 1 => hbmTy0_1 i
  | _ => ⟨S2x1x10000x128, .f32⟩

abbrev bufTy : (tb : Table) → Fin (tcTables nBuf tb) → BufTy
  | .hbm, ⟨i, _⟩ => hbmTy i
  | _, _ => ⟨S2x1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_cst : Ref sig .tc := ⟨.hbm, 22, rfl⟩
abbrev main_call0_v0 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_cst : Ref sig .tc := ⟨.hbm, 49, rfl⟩
abbrev main_call1_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call2_cst : Ref sig .tc := ⟨.hbm, 76, rfl⟩
abbrev main_call2_v0 : Ref sig .tc := ⟨.hbm, 77, rfl⟩
abbrev main_v57 : Ref sig .tc := ⟨.hbm, 78, rfl⟩
abbrev main_cst_3 : Ref sig .tc := ⟨.hbm, 79, rfl⟩
abbrev main_v58 : Ref sig .tc := ⟨.hbm, 80, rfl⟩
abbrev main_cst_4 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_5 : Ref sig .tc := ⟨.hbm, 86, rfl⟩
abbrev main_v63 : Ref sig .tc := ⟨.hbm, 87, rfl⟩
abbrev main_v64 : Ref sig .tc := ⟨.hbm, 88, rfl⟩
abbrev main_cst_6 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_call3_cst : Ref sig .tc := ⟨.hbm, 103, rfl⟩
abbrev main_call3_v0 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_7 : Ref sig .tc := ⟨.hbm, 120, rfl⟩
abbrev main_v93 : Ref sig .tc := ⟨.hbm, 121, rfl⟩
abbrev main_cst_8 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_9 : Ref sig .tc := ⟨.hbm, 127, rfl⟩
abbrev main_v98 : Ref sig .tc := ⟨.hbm, 128, rfl⟩
abbrev main_cst_10 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_11 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_12 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩

abbrev nD : Nat := 1
abbrev τ : Topo := Topo.v7x

variable {F : FTy → Type} [FloatOps F]
-- ==== Proof.PropagateBody.lean ====
/- One grid point of the propagation kernel: what its stores leave in the scratch buffer and in the
   output block, as values, and that the body runs to them. Stated over any float interpretation `F`. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

-- covering a block of 10000 rows by stored rectangles recurses once per coordinate of the long axis
set_option maxRecDepth 16384

noncomputable section

namespace Cert.KernelIdeal.Propagate

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two stores that fill the scratch: `f·W` in the left 64 columns, `s·W` in the right 64 (the last store first). -/
def fillPieces (f s : Vec F S1x10000x128 .f32) (w : Vec F S1x128x64 .f32) : List (View.Piece (Elt F) S10000x128 .f32) :=
  [⟨Rect.unit (s := S10000x128) ![0, 64] S10000x64.size inb_S10000x128_S10000x64_0_64, k0_pay6 w s⟩,
   ⟨Rect.unit (s := S10000x128) ![0, 0] S10000x64.size inb_S10000x128_S10000x64_0_0, k0_pay5 w f⟩]

/-- What the scratch holds once filled from the blocks `f`, `s` and `w`. -/
def filled (f s : Vec F S1x10000x128 .f32) (w : Vec F S1x128x64 .f32) : Vec F S10000x128 .f32 :=
  View.canon (fillPieces f s w)

/-- The five stores of the output block: 80 rows from each of the five row blocks of the adjacency (the last store first). -/
def rowPieces (z : Vec F S10000x128 .f32) (a0 a1 a2 a3 a4 : Vec F S1x80x10000 .f32) : List (View.Piece (Elt F) S1x400x128 .f32) :=
  [⟨Rect.unit (s := S1x400x128) ![0, 320, 0] S1x80x128.size inb_S1x400x128_S1x80x128_0_320_0, k0_pay3 z a4⟩,
   ⟨Rect.unit (s := S1x400x128) ![0, 240, 0] S1x80x128.size inb_S1x400x128_S1x80x128_0_240_0, k0_pay2 z a3⟩,
   ⟨Rect.unit (s := S1x400x128) ![0, 160, 0] S1x80x128.size inb_S1x400x128_S1x80x128_0_160_0, k0_pay1 (k0_pay9 z a2)⟩,
   ⟨Rect.unit (s := S1x400x128) ![0, 80, 0] S1x80x128.size inb_S1x400x128_S1x80x128_0_80_0, k0_pay8 z a1⟩,
   ⟨Rect.unit (s := S1x400x128) ![0, 0, 0] S1x80x128.size inb_S1x400x128_S1x80x128_0_0_0, k0_pay7 z a0⟩]

/-- What the output block holds after a point that found (or left) `z` in the scratch. -/
def rows (z : Vec F S10000x128 .f32) (a0 a1 a2 a3 a4 : Vec F S1x80x10000 .f32) : Vec F S1x400x128 .f32 :=
  View.canon (rowPieces z a0 a1 a2 a3 a4)

/-- The two stores cover the scratch. -/
theorem fillPieces_cover (f s : Vec F S1x10000x128 .f32) (w : Vec F S1x128x64 .f32) (y : S10000x128.Idx) :
    ∃ p ∈ fillPieces f s w, y ∈ p.1.set :=
  View.cover_of_tiledL (fillPieces f s w) S10000x64.size (by sl_kernel_rfl) y

/-- The five stores cover the output block. -/
theorem rowPieces_cover (z : Vec F S10000x128 .f32) (a0 a1 a2 a3 a4 : Vec F S1x80x10000 .f32) (y : S1x400x128.Idx) :
    ∃ p ∈ rowPieces z a0 a1 a2 a3 a4, y ∈ p.1.set :=
  View.cover_of_tiledL (rowPieces z a0 a1 a2 a3 a4) S1x80x128.size (by sl_kernel_rfl) y

/-- The branch the body takes at the first point of each graph. -/
abbrev fills (i : grid0.Coords) : Prop := (Scalar.cmpi .ne (Scalar.extui (Scalar.cmpi .eq (BitVec.ofNat 32 (i 1).val) 0#32)) 0#32) = 1#1

/-- It is taken at the points divisible by 25. -/
theorem fills_iff (t : Fin cfg0.N) : fills (grid0.coords t) ↔ t.val % 25 = 0 := by
  have ht : t.val < 50 := Nat.lt_of_lt_of_eq t.isLt N_0
  have e1 : (grid0.coords t 1).val = t.val / 1 % 25 := Pipeline.Grid.coords_val t 1 (by decide) rfl
  simp only [fills, e1]
  word_cmp

/-- A load of a whole buffer held at the contents reading `x` reads `x`. -/
theorem load_whole {sp : Space} {sh : Shape} {e : EltTy} {m : Memref sig .tc sp sh e} (h : m.IsWhole) (x : sh.Idx → Elt F e)
    {off : Fin sh.rank → ℕ} (inb : ∀ a, off a + sh.size a ≤ sh.size a) :
    m.view.readAt (Elt F) (Rect.unit off sh.size inb).toLoadRect (h.unread x) = x :=
  (View.readAt_full m.view _ inb).trans (h.read_unread x)

/-- Through any view of the scratch's shape and over any contents, the two stores leave `filled`. -/
theorem read_fill (v : View sig .tc .vmem S10000x128 .f32) (g : v.ty.Contents (Elt F)) {f f' s s' : Vec F S1x10000x128 .f32} {w w' : Vec F S1x128x64 .f32}
    (hf : f' = f) (hs : s' = s) (hw : w' = w) :
    v.read (Elt F) (v.writes (Elt F) g (fillPieces f' s' w')) = filled f s w := by
  subst hf hs hw
  exact View.read_writes_eq_canon _ _ _ (fillPieces_cover f' s' w')

/-- Through any view of the output block's shape and over any contents, the five stores leave `rows`. -/
theorem read_rows (v : View sig .tc .vmem S1x400x128 .f32) (g : v.ty.Contents (Elt F)) {z z' : Vec F S10000x128 .f32}
    {a0 a1 a2 a3 a4 a0' a1' a2' a3' a4' : Vec F S1x80x10000 .f32} (hz : z' = z) (h0 : a0' = a0) (h1 : a1' = a1) (h2 : a2' = a2) (h3 : a3' = a3) (h4 : a4' = a4) :
    v.read (Elt F) (v.writes (Elt F) g (rowPieces z' a0' a1' a2' a3' a4')) = rows z a0 a1 a2 a3 a4 := by
  subst hz h0 h1 h2 h3 h4
  exact View.read_writes_eq_canon _ _ _ (rowPieces_cover z' a0' a1' a2' a3' a4')

/-- A whole buffer held at the contents reading `x` is that buffer owned at `x` (`owns` spelled out). -/
theorem hold (c : Dev nD) {sp : Space} {sh : Shape} {e : EltTy} {m : Memref sig .tc sp sh e} (h : m.IsWhole) (x : sh.Idx → Elt F e) :
    (View.loc (c : Thread nD τ) m.view ↦[m.view.set]{fullShare} h.unread x : sProp 𝕄)
      ⊢ iprop(∃ g, ⌜m.view.read (Elt F) g = x⌝ ∗ View.loc (c : Thread nD τ) m.view ↦[m.view.set]{fullShare} g) := by
  iintro H
  iexists _; isplitr
  · ipureintro; exact h.read_unread x
  iexact H

section Body

variable (c : Dev nD) (i : grid0.Coords)
  (arg2 : Memref sig .tc .vmem S1x10000x128 .f32) (harg2 : arg2.IsWhole) (arg3 : Memref sig .tc .vmem S1x10000x128 .f32) (harg3 : arg3.IsWhole)
  (arg4 : Memref sig .tc .vmem S1x128x64 .f32) (harg4 : arg4.IsWhole)
  (arg5 : Memref sig .tc .vmem S1x80x10000 .f32) (harg5 : arg5.IsWhole) (arg6 : Memref sig .tc .vmem S1x80x10000 .f32) (harg6 : arg6.IsWhole)
  (arg7 : Memref sig .tc .vmem S1x80x10000 .f32) (harg7 : arg7.IsWhole) (arg8 : Memref sig .tc .vmem S1x80x10000 .f32) (harg8 : arg8.IsWhole)
  (arg9 : Memref sig .tc .vmem S1x80x10000 .f32) (harg9 : arg9.IsWhole)
  (arg10 : Memref sig .tc .vmem S1x400x128 .f32) (harg10 : arg10.IsWhole) (arg11 : Memref sig .tc .vmem S10000x128 .f32) (harg11 : arg11.IsWhole)
  (f s : Vec F S1x10000x128 .f32) (w : Vec F S1x128x64 .f32) (a0 a1 a2 a3 a4 : Vec F S1x80x10000 .f32)

/-- The eight input blocks, each in its staging buffer. -/
def inputs : sProp 𝕄 :=
  iprop(owns (c : Thread nD τ) arg2 fullShare f ∗ owns (c : Thread nD τ) arg3 fullShare s ∗ owns (c : Thread nD τ) arg4 fullShare w
    ∗ owns (c : Thread nD τ) arg5 fullShare a0 ∗ owns (c : Thread nD τ) arg6 fullShare a1 ∗ owns (c : Thread nD τ) arg7 fullShare a2
    ∗ owns (c : Thread nD τ) arg8 fullShare a3 ∗ owns (c : Thread nD τ) arg9 fullShare a4)

set_option maxHeartbeats 1000000 in
/-- A point that fills the scratch: from the input blocks and any contents of the output and the scratch, the body
    leaves the scratch at `filled` and the output at `rows` of it. -/
theorem run_fill (hc : fills i) (E : Set ℕ) (K : PUnit → sProp 𝕄) :
    iprop(inputs c arg2 arg3 arg4 arg5 arg6 arg7 arg8 arg9 f s w a0 a1 a2 a3 a4
        ∗ (∃ d, owns (c : Thread nD τ) arg10 fullShare d) ∗ (∃ d, owns (c : Thread nD τ) arg11 fullShare d)
        ∗ (iprop(inputs c arg2 arg3 arg4 arg5 arg6 arg7 arg8 arg9 f s w a0 a1 a2 a3 a4
            ∗ owns (c : Thread nD τ) arg10 fullShare (rows (filled f s w) a0 a1 a2 a3 a4)
            ∗ owns (c : Thread nD τ) arg11 fullShare (filled f s w)) -∗ K ⟨⟩))
      ⊢ wp frame (wpE (defs₀ (F := F)) Variants.none c none) E (cc0__propagate_kernel i arg2 harg2 arg3 harg3 arg4 harg4 arg5 harg5 arg6 harg6 arg7 harg7 arg8 harg8 arg9 harg9 arg10 harg10 arg11 harg11) K := by
  simp only [cc0__propagate_kernel_eq_skeleton]; unfold cc0__propagate_kernel_skel
  simp only [k0_part1_eq_skeleton]
  unfold inputs
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | sl_exact hc)
  sl_step
  iapply Hk
  isplitl [H0 H1 H2 H3 H4 H5 H6 H7]
  · isplitl [H0]; · iapply (hold c harg2 f); iexact H0
    isplitl [H1]; · iapply (hold c harg3 s); iexact H1
    isplitl [H2]; · iapply (hold c harg4 w); iexact H2
    isplitl [H3]; · iapply (hold c harg5 a0); iexact H3
    isplitl [H4]; · iapply (hold c harg6 a1); iexact H4
    isplitl [H5]; · iapply (hold c harg7 a2); iexact H5
    isplitl [H6]; · iapply (hold c harg8 a3); iexact H6
    iapply (hold c harg9 a4); iexact H7
  isplitl [H8]
  · iexists _; isplitr
    swap; · iexact H8
    · ipureintro
      delta run_fill.sl.r
      refine read_rows arg10.view f8 (?_ : run_fill.sl.v3 c arg2 harg2 arg3 harg3 arg4 harg4 arg11 f s w = _) (load_whole harg5 a0 _) (load_whole harg6 a1 _) (load_whole harg7 a2 _) (load_whole harg8 a3 _) (load_whole harg9 a4 _)
      delta run_fill.sl.v3
      exact (View.readAt_full arg11.view _ _).trans (read_fill arg11.view _ (load_whole harg2 f _) (load_whole harg3 s _) (load_whole harg4 w _))
  iexists _; isplitr
  swap; · iexact H9
  · ipureintro
    delta run_fill.sl.H9_2
    exact read_fill arg11.view f9 (load_whole harg2 f _) (load_whole harg3 s _) (load_whole harg4 w _)

set_option maxHeartbeats 1000000 in
/-- A point that finds the scratch filled: from the adjacency blocks, any contents of the output and a scratch holding `z`,
    the body leaves the scratch as it is and the output at `rows` of `z`. -/
theorem run_keep (hc : ¬ fills i) (z : Vec F S10000x128 .f32) (E : Set ℕ) (K : PUnit → sProp 𝕄) :
    iprop(inputs c arg2 arg3 arg4 arg5 arg6 arg7 arg8 arg9 f s w a0 a1 a2 a3 a4
        ∗ (∃ d, owns (c : Thread nD τ) arg10 fullShare d) ∗ owns (c : Thread nD τ) arg11 fullShare z
        ∗ (iprop(inputs c arg2 arg3 arg4 arg5 arg6 arg7 arg8 arg9 f s w a0 a1 a2 a3 a4
            ∗ owns (c : Thread nD τ) arg10 fullShare (rows z a0 a1 a2 a3 a4)
            ∗ owns (c : Thread nD τ) arg11 fullShare z) -∗ K ⟨⟩))
      ⊢ wp frame (wpE (defs₀ (F := F)) Variants.none c none) E (cc0__propagate_kernel i arg2 harg2 arg3 harg3 arg4 harg4 arg5 harg5 arg6 harg6 arg7 harg7 arg8 harg8 arg9 harg9 arg10 harg10 arg11 harg11) K := by
  simp only [cc0__propagate_kernel_eq_skeleton]; unfold cc0__propagate_kernel_skel
  simp only [k0_part1_eq_skeleton]
  unfold inputs
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg11.eq_unread hf9
  sl_exec (disch := first | sl_exact hc)
  sl_step
  iapply Hk
  isplitl [H0 H1 H2 H3 H4 H5 H6 H7]
  · isplitl [H0]; · iapply (hold c harg2 f); iexact H0
    isplitl [H1]; · iapply (hold c harg3 s); iexact H1
    isplitl [H2]; · iapply (hold c harg4 w); iexact H2
    isplitl [H3]; · iapply (hold c harg5 a0); iexact H3
    isplitl [H4]; · iapply (hold c harg6 a1); iexact H4
    isplitl [H5]; · iapply (hold c harg7 a2); iexact H5
    isplitl [H6]; · iapply (hold c harg8 a3); iexact H6
    iapply (hold c harg9 a4); iexact H7
  isplitl [H8]
  · iexists _; isplitr
    swap; · iexact H8
    · ipureintro
      delta run_keep.sl.r run_keep.sl.r_1
      exact read_rows arg10.view f8 (load_whole harg11 z _) (load_whole harg5 a0 _) (load_whole harg6 a1 _) (load_whole harg7 a2 _) (load_whole harg8 a3 _) (load_whole harg9 a4 _)
  iexists _; isplitr
  · ipureintro; exact hf9
  iexact H9

end Body

end Cert.KernelIdeal.Propagate

end
-- ==== Proof.PropagateRegion.lean ====
/- The propagation region: its proof data over any contents of the buffers it is entered with, and the body's
   obligation at every grid point. Stated over any float interpretation `F`. -/
module

public import proofs.«01_k».proof.Proof.PropagateBody
public import Idealize.ShloMosaic.Lib.Claim
public import Idealize.ShloMosaic.Lib.Pipeline.Value

@[expose] public section

set_option maxRecDepth 16384

noncomputable section

namespace Cert.KernelIdeal.Propagate

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

-- the contents of the buffers of every core when the region is entered
variable (V : (c : Dev nD) → (b : Ref sig .tc) → Buf (Elt F) ((c : Thread nD τ).loc b))

/-- Window `w`'s block at point `t`, of the contents the region is entered with. -/
def block (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the scratch holds after point `t`. -/
def scratchAt (c : Dev nD) (t : Fin cfg0.N) : Vec F S10000x128 .f32 := filled (block V c 0 t) (block V c 1 t) (block V c 2 t)

/-- What the output's staging buffer holds after point `t`. -/
def outAt (c : Dev nD) (t : Fin cfg0.N) : Vec F S1x400x128 .f32 :=
  rows (scratchAt V c t) (block V c 3 t) (block V c 4 t) (block V c 5 t) (block V c 6 t) (block V c 7 t)

/-- The staging buffers of the other region, at any contents. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f))

/-- What the region keeps beside its windows, the scratch owned at some contents satisfying `P`. -/
def keeps (c : Dev nD) (S : sProp 𝕄) : sProp 𝕄 := iprop((S ∗ others c) ∗ ∃ r, prngReg c r)

/-- What the region keeps beside its windows, with the scratch set apart. -/
theorem rest_eq (c : Dev nD) :
    (Pipeline.ΦA spec0 c : sProp 𝕄) = keeps c iprop(∃ d, owns (c : Thread nD τ) (Memref.whole cc0_scratch0) fullShare d) := by
  unfold Pipeline.ΦA keeps others
  rw [scopedRest0_eq]
  simp only [owns_whole]

/-- The invariant before position `n`: at first the scratch at anything; then at what the point before left. -/
def inv (c : Dev nD) : (n : ℕ) → n ≤ cfg0.N → sProp 𝕄
  | 0, _ => Pipeline.ΦA spec0 c
  | n + 1, hn => keeps c (owns (c : Thread nD τ) (Memref.whole cc0_scratch0) fullShare (scratchAt V c ⟨n, hn⟩))

/-- The region's proof data. -/
def dat (c : Dev nD) : Dat τ (Elt F) Unit ℕ (UR sig nD τ) ℕ cfg0 c where
  A w := V c (Pipeline.arrRef spec0 w)
  after w t := match w with
    | ⟨0, _⟩ => block V c 0 t
    | ⟨1, _⟩ => block V c 1 t
    | ⟨2, _⟩ => block V c 2 t
    | ⟨3, _⟩ => block V c 3 t
    | ⟨4, _⟩ => block V c 4 t
    | ⟨5, _⟩ => block V c 5 t
    | ⟨6, _⟩ => block V c 6 t
    | ⟨7, _⟩ => block V c 7 t
    | ⟨8, _⟩ => outAt V c t
  Φ t := inv V c t.val (Nat.le_of_lt_succ t.isLt)
  q w := Pipeline.shareOf spec0 w
  owed _ := 0

/-- A window's array starts at what the region is entered with. -/
theorem dat_A (c : Dev nD) (w : Fin cfg0.W) : (dat V c).A w = V c (Pipeline.arrRef spec0 w) := by dsimp only [dat]
/-- The body leaves the buffer of the features at its block. -/
theorem after_0 (c : Dev nD) (t : Fin cfg0.N) : (dat V c).after 0 t = block V c 0 t := by dsimp only [dat]
/-- The body leaves the buffer of the shuffled features at its block. -/
theorem after_1 (c : Dev nD) (t : Fin cfg0.N) : (dat V c).after 1 t = block V c 1 t := by dsimp only [dat]
/-- The body leaves the buffer of the graph weights at its block. -/
theorem after_2 (c : Dev nD) (t : Fin cfg0.N) : (dat V c).after 2 t = block V c 2 t := by dsimp only [dat]
/-- The body leaves the buffer of the first adjacency stream at its block. -/
theorem after_3 (c : Dev nD) (t : Fin cfg0.N) : (dat V c).after 3 t = block V c 3 t := by dsimp only [dat]
/-- The body leaves the buffer of the second adjacency stream at its block. -/
theorem after_4 (c : Dev nD) (t : Fin cfg0.N) : (dat V c).after 4 t = block V c 4 t := by dsimp only [dat]
/-- The body leaves the buffer of the third adjacency stream at its block. -/
theorem after_5 (c : Dev nD) (t : Fin cfg0.N) : (dat V c).after 5 t = block V c 5 t := by dsimp only [dat]
/-- The body leaves the buffer of the fourth adjacency stream at its block. -/
theorem after_6 (c : Dev nD) (t : Fin cfg0.N) : (dat V c).after 6 t = block V c 6 t := by dsimp only [dat]
/-- The body leaves the buffer of the fifth adjacency stream at its block. -/
theorem after_7 (c : Dev nD) (t : Fin cfg0.N) : (dat V c).after 7 t = block V c 7 t := by dsimp only [dat]
/-- The body leaves the point's hidden rows in the output's buffer. -/
theorem after_8 (c : Dev nD) (t : Fin cfg0.N) : (dat V c).after 8 t = outAt V c t := by dsimp only [dat]

/-- An uncut input window's buffer holds, at every point, that point's block. -/
theorem before_in (c : Dev nD) (w : Fin cfg0.W) (hout : (cfg0.win w).isOut = false) (hidle : ∀ i, cfg0.idle w i = false)
    (hclip : ∀ t t' : Fin cfg0.N, (cfg0.win w).index t = (cfg0.win w).index t' → (cfg0.win w).clip (cfg0.grid.coords t) = (cfg0.win w).clip (cfg0.grid.coords t'))
    (hkeep : ∀ t, (cfg0.win w).cut (cfg0.grid.coords t) ((dat V c).after w t) = block V c w t)
    (t : Fin cfg0.N) (d) : (dat V c).before w t d = (dat V c).fetched w t d :=
  (dat V c).before_in_eq_fetched w hout hidle hclip (fun t => by rw [hkeep]; unfold Dat.blockOf block; rw [dat_A]) t d

/-- A fetch brings in the block of the features. -/
theorem fetched_0 (c : Dev nD) (t : Fin cfg0.N) (d) : (dat V c).fetched 0 t d = block V c 0 t := by
  unfold Dat.fetched Dat.blockOf block; rw [dat_A]; rfl
/-- The buffer of the features holds its block when the body starts. -/
theorem before_0 (c : Dev nD) (t : Fin cfg0.N) (d) : (dat V c).before 0 t d = block V c 0 t :=
  (before_in V c 0 rfl (fun _ => rfl) (fun _ _ _ => rfl) (fun t => by rw [after_0]) t d).trans (fetched_0 V c t d)
/-- A fetch brings in the block of the shuffled features. -/
theorem fetched_1 (c : Dev nD) (t : Fin cfg0.N) (d) : (dat V c).fetched 1 t d = block V c 1 t := by
  unfold Dat.fetched Dat.blockOf block; rw [dat_A]; rfl
/-- The buffer of the shuffled features holds its block when the body starts. -/
theorem before_1 (c : Dev nD) (t : Fin cfg0.N) (d) : (dat V c).before 1 t d = block V c 1 t :=
  (before_in V c 1 rfl (fun _ => rfl) (fun _ _ _ => rfl) (fun t => by rw [after_1]) t d).trans (fetched_1 V c t d)
/-- A fetch brings in the block of the graph weights. -/
theorem fetched_2 (c : Dev nD) (t : Fin cfg0.N) (d) : (dat V c).fetched 2 t d = block V c 2 t := by
  unfold Dat.fetched Dat.blockOf block; rw [dat_A]; rfl
/-- The buffer of the graph weights holds its block when the body starts. -/
theorem before_2 (c : Dev nD) (t : Fin cfg0.N) (d) : (dat V c).before 2 t d = block V c 2 t :=
  (before_in V c 2 rfl (fun _ => rfl) (fun _ _ _ => rfl) (fun t => by rw [after_2]) t d).trans (fetched_2 V c t d)
/-- A fetch brings in the block of the first adjacency stream. -/
theorem fetched_3 (c : Dev nD) (t : Fin cfg0.N) (d) : (dat V c).fetched 3 t d = block V c 3 t := by
  unfold Dat.fetched Dat.blockOf block; rw [dat_A]; rfl
/-- The buffer of the first adjacency stream holds its block when the body starts. -/
theorem before_3 (c : Dev nD) (t : Fin cfg0.N) (d) : (dat V c).before 3 t d = block V c 3 t :=
  (before_in V c 3 rfl (fun _ => rfl) (fun _ _ _ => rfl) (fun t => by rw [after_3]) t d).trans (fetched_3 V c t d)
/-- A fetch brings in the block of the second adjacency stream. -/
theorem fetched_4 (c : Dev nD) (t : Fin cfg0.N) (d) : (dat V c).fetched 4 t d = block V c 4 t := by
  unfold Dat.fetched Dat.blockOf block; rw [dat_A]; rfl
/-- The buffer of the second adjacency stream holds its block when the body starts. -/
theorem before_4 (c : Dev nD) (t : Fin cfg0.N) (d) : (dat V c).before 4 t d = block V c 4 t :=
  (before_in V c 4 rfl (fun _ => rfl) (fun _ _ _ => rfl) (fun t => by rw [after_4]) t d).trans (fetched_4 V c t d)
/-- A fetch brings in the block of the third adjacency stream. -/
theorem fetched_5 (c : Dev nD) (t : Fin cfg0.N) (d) : (dat V c).fetched 5 t d = block V c 5 t := by
  unfold Dat.fetched Dat.blockOf block; rw [dat_A]; rfl
/-- The buffer of the third adjacency stream holds its block when the body starts. -/
theorem before_5 (c : Dev nD) (t : Fin cfg0.N) (d) : (dat V c).before 5 t d = block V c 5 t :=
  (before_in V c 5 rfl (fun _ => rfl) (fun _ _ _ => rfl) (fun t => by rw [after_5]) t d).trans (fetched_5 V c t d)
/-- A fetch brings in the block of the fourth adjacency stream. -/
theorem fetched_6 (c : Dev nD) (t : Fin cfg0.N) (d) : (dat V c).fetched 6 t d = block V c 6 t := by
  unfold Dat.fetched Dat.blockOf block; rw [dat_A]; rfl
/-- The buffer of the fourth adjacency stream holds its block when the body starts. -/
theorem before_6 (c : Dev nD) (t : Fin cfg0.N) (d) : (dat V c).before 6 t d = block V c 6 t :=
  (before_in V c 6 rfl (fun _ => rfl) (fun _ _ _ => rfl) (fun t => by rw [after_6]) t d).trans (fetched_6 V c t d)
/-- A fetch brings in the block of the fifth adjacency stream. -/
theorem fetched_7 (c : Dev nD) (t : Fin cfg0.N) (d) : (dat V c).fetched 7 t d = block V c 7 t := by
  unfold Dat.fetched Dat.blockOf block; rw [dat_A]; rfl
/-- The buffer of the fifth adjacency stream holds its block when the body starts. -/
theorem before_7 (c : Dev nD) (t : Fin cfg0.N) (d) : (dat V c).before 7 t d = block V c 7 t :=
  (before_in V c 7 rfl (fun _ => rfl) (fun _ _ _ => rfl) (fun t => by rw [after_7]) t d).trans (fetched_7 V c t d)

/-- The point before. -/
abbrev prev (t : Fin cfg0.N) : Fin cfg0.N := ⟨t.val - 1, Nat.lt_of_le_of_lt (Nat.sub_le _ _) t.isLt⟩

/-- Away from the first point of a graph, what the point before left in the scratch is what this point's blocks would fill it with. -/
theorem scratchAt_prev (c : Dev nD) (t : Fin cfg0.N) (h : ¬ t.val % 25 = 0) : scratchAt V c (prev t) = scratchAt V c t := by
  have d0 : Vec F S1x10000x128 .f32 := block V c 0 t
  have d2 : Vec F S1x128x64 .f32 := block V c 2 t
  have f0 : (cfg0.win 0).fetch t = false := by rw [← Bool.not_eq_true, fetch0_0]; exact h
  have f1 : (cfg0.win 1).fetch t = false := by rw [← Bool.not_eq_true, fetch0_1]; exact h
  have f2 : (cfg0.win 2).fetch t = false := by rw [← Bool.not_eq_true, fetch0_2]; exact h
  have e0 := (dat V c).fetched_congr 0 ((cfg0.win 0).index_eq_of_fetch rfl t f0).2 rfl d0
  have e1 := (dat V c).fetched_congr 1 ((cfg0.win 1).index_eq_of_fetch rfl t f1).2 rfl d0
  have e2 := (dat V c).fetched_congr 2 ((cfg0.win 2).index_eq_of_fetch rfl t f2).2 rfl d2
  rw [fetched_0, fetched_0] at e0
  rw [fetched_1, fetched_1] at e1
  rw [fetched_2, fetched_2] at e2
  unfold scratchAt
  rw [e0, e1, e2]

/-- Before a point that is not the first, the scratch is at what the point before left; at any point it is at something. -/
theorem inv_pos (c : Dev nD) (t : Fin cfg0.N) (ht : t.val ≠ 0) :
    (dat V c).Φ t.castSucc = keeps c (owns (c : Thread nD τ) (Memref.whole cc0_scratch0) fullShare (scratchAt V c (prev t))) := by
  obtain ⟨n, hn⟩ := t
  cases n with
  | zero => exact absurd rfl ht
  | succ n => rfl

/-- At any point the scratch holds something. -/
theorem inv_some (c : Dev nD) (n : ℕ) (hn : n ≤ cfg0.N) :
    inv V c n hn ⊢ keeps c iprop(∃ d, owns (c : Thread nD τ) (Memref.whole cc0_scratch0) fullShare d) := by
  cases n with
  | zero => exact Entails.of_eq (rest_eq c)
  | succ n =>
    unfold inv keeps
    iintro ⟨⟨HS, Ho⟩, Hr⟩
    isplitr [Hr]
    · isplitl [HS]; · iexists _; iexact HS
      iexact Ho
    iexact Hr

/-- After a point the scratch holds what that point leaves. -/
theorem inv_succ (c : Dev nD) (t : Fin cfg0.N) :
    (dat V c).Φ t.succ = keeps c (owns (c : Thread nD τ) (Memref.whole cc0_scratch0) fullShare (scratchAt V c t)) := rfl

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t))

set_option maxHeartbeats 3200000 in
/-- The body at any point: it fills the scratch where its branch says so and keeps it elsewhere; the output block is `outAt`. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7]
  rw [show (dat V c).owesAt () t.succ = (dat V c).owesAt () t.castSucc from rfl, inv_succ,
    after_0, after_1, after_2, after_3, after_4, after_5, after_6, after_7, after_8]
  by_cases h0 : t.val % 25 = 0
  · rw [show (dat V c).Φ t.castSucc = inv V c t.val (Nat.le_of_lt t.isLt) from Pipeline.Dat.Φ_castSucc (inv V c) t]
    refine (sep_mono (inv_some V c _ _) .rfl).trans ?_
    unfold keeps
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_fill c (grid0.coords t) _ _ _ _ _ _ _ _ _ _ _ _ _ _ _ _ _ _ _ _ (block V c 0 t) (block V c 1 t) (block V c 2 t) (block V c 3 t) (block V c 4 t) (block V c 5 t) (block V c 6 t) (block V c 7 t) ((fills_iff t).mpr h0) Set.univ _)
    unfold inputs
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [HS]; · iexact HS
    iintro ⟨⟨H0, H1, H2, H3, H4, H5, H6, H7⟩, H8, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [inv_pos V c t (fun e => h0 (by rw [e])), scratchAt_prev V c t h0]
    unfold keeps
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_keep c (grid0.coords t) _ _ _ _ _ _ _ _ _ _ _ _ _ _ _ _ _ _ _ _ (block V c 0 t) (block V c 1 t) (block V c 2 t) (block V c 3 t) (block V c 4 t) (block V c 5 t) (block V c 6 t) (block V c 7 t) (fun h => h0 ((fills_iff t).mp h)) (scratchAt V c t) Set.univ _)
    unfold inputs
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [HS]; · iexact HS
    iintro ⟨⟨H0, H1, H2, H3, H4, H5, H6, H7⟩, H8, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The region's body, called with its buffers at a point. -/
theorem defs_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dat V c) (defs₀ (F := F)) Variants.none () Set.univ := fun t => by
  rw [bigSep_W0, bigSep_W0, defs_row]
  exact triple_restated (sound_body V c t) rfl .rfl fun _ => .rfl

/-- What the region is handed is the invariant before the first point, -/
theorem inv_in (c : Dev nD) : (Pipeline.ΦA spec0 c : sProp 𝕄) ⊢ (dat V c).Φ 0 := by
  rw [show (dat V c).Φ 0 = (Pipeline.ΦA spec0 c : sProp 𝕄) from rfl]

/-- and the invariant after the last point gives it back. -/
theorem inv_out (c : Dev nD) : (dat V c).Φ (Fin.last cfg0.N) ⊢ (Pipeline.ΦA spec0 c : sProp 𝕄) := by
  rw [rest_eq]
  exact inv_some V c cfg0.N (Nat.le_refl _)

end Cert.KernelIdeal.Propagate

end
-- ==== Proof.Epilogue.lean ====
/- The epilogue kernel, one grid point over whole arrays: what its stores leave in its two outputs, that the body runs
   to them, and the region's proof data over any contents of the buffers. Stated over any float interpretation `F`. -/
module

public import proofs.«01_k».proof.Proof.PropagateBody

@[expose] public section

set_option maxRecDepth 16384

noncomputable section

namespace Cert.KernelIdeal.Epilogue

open Cert.KernelIdeal.Gen
open Cert.KernelIdeal.Propagate (load_whole)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The four quarters of `h` the body loads: graph 0 or 1, the left 64 columns (from `f`) or the right 64 (from `s`). -/
def left0 (h : Vec F S2x10000x128 .f32) : Vec F S1x10000x64 .f32 :=
  View.ld h (Rect.unit (s := S2x10000x128) ![0, 0, 0] S1x10000x64.size inb_S2x10000x128_S1x10000x64_0_0_0)
def right0 (h : Vec F S2x10000x128 .f32) : Vec F S1x10000x64 .f32 :=
  View.ld h (Rect.unit (s := S2x10000x128) ![0, 0, 64] S1x10000x64.size inb_S2x10000x128_S1x10000x64_0_0_64)
def left1 (h : Vec F S2x10000x128 .f32) : Vec F S1x10000x64 .f32 :=
  View.ld h (Rect.unit (s := S2x10000x128) ![1, 0, 0] S1x10000x64.size inb_S2x10000x128_S1x10000x64_1_0_0)
def right1 (h : Vec F S2x10000x128 .f32) : Vec F S1x10000x64 .f32 :=
  View.ld h (Rect.unit (s := S2x10000x128) ![1, 0, 64] S1x10000x64.size inb_S2x10000x128_S1x10000x64_1_0_64)

/-- The four columns stored to the scores, the last store first. -/
def scorePieces (h : Vec F S2x10000x128 .f32) (w : Vec F S64x64 .f32) : List (View.Piece (Elt F) S10000x4 .f32) :=
  [⟨Rect.unit (s := S10000x4) ![0, 3] S10000x1.size inb_S10000x4_S10000x1_0_3, k1_pay1 (k1_pay9 (right1 h)) (k1_pay10 w (left1 h))⟩,
   ⟨Rect.unit (s := S10000x4) ![0, 2] S10000x1.size inb_S10000x4_S10000x1_0_2, k1_pay11 w (left1 h)⟩,
   ⟨Rect.unit (s := S10000x4) ![0, 1] S10000x1.size inb_S10000x4_S10000x1_0_1, k1_pay7 w (left0 h) (right0 h)⟩,
   ⟨Rect.unit (s := S10000x4) ![0, 0] S10000x1.size inb_S10000x4_S10000x1_0_0, k1_pay6 w (left0 h)⟩]

/-- The scores left by the body. -/
def scores (h : Vec F S2x10000x128 .f32) (w : Vec F S64x64 .f32) : Vec F S10000x4 .f32 := View.canon (scorePieces h w)

/-- The regulariser left by the body. -/
def reg (h : Vec F S2x10000x128 .f32) (e : Vec F S1x10000x64 .f32) : Vec F S1x1 .f32 :=
  k1_pay2 (k1_pay3 e) (left0 h) (left1 h) (right0 h) (right1 h)

/-- The four columns written cover the scores. -/
theorem scorePieces_cover (h : Vec F S2x10000x128 .f32) (w : Vec F S64x64 .f32) (y : S10000x4.Idx) :
    ∃ p ∈ scorePieces h w, y ∈ p.1.set :=
  View.cover_of_tiledL (scorePieces h w) S10000x1.size (by sl_kernel_rfl) y

set_option maxHeartbeats 1000000 in
/-- From its three inputs and outputs at anything the body runs to the scores and the regulariser. -/
theorem run (c : Dev nD) (E : Set ℕ) (arg0 : Memref sig .tc .vmem S2x10000x128 .f32) (harg0 : arg0.IsWhole) (arg1 : Memref sig .tc .vmem S64x64 .f32) (harg1 : arg1.IsWhole)
    (arg2 : Memref sig .tc .vmem S1x10000x64 .f32) (harg2 : arg2.IsWhole) (arg3 : Memref sig .tc .vmem S10000x4 .f32) (harg3 : arg3.IsWhole)
    (arg4 : Memref sig .tc .vmem S1x1 .f32) (harg4 : arg4.IsWhole)
    (h : Vec F S2x10000x128 .f32) (w : Vec F S64x64 .f32) (e : Vec F S1x10000x64 .f32) (K : PUnit → sProp 𝕄) :
    iprop(owns (c : Thread nD τ) arg0 fullShare h ∗ owns (c : Thread nD τ) arg1 fullShare w ∗ owns (c : Thread nD τ) arg2 fullShare e
        ∗ (∃ d, owns (c : Thread nD τ) arg3 fullShare d) ∗ (∃ d, owns (c : Thread nD τ) arg4 fullShare d)
        ∗ (iprop(owns (c : Thread nD τ) arg0 fullShare h ∗ owns (c : Thread nD τ) arg1 fullShare w ∗ owns (c : Thread nD τ) arg2 fullShare e
            ∗ owns (c : Thread nD τ) arg3 fullShare (scores h w) ∗ owns (c : Thread nD τ) arg4 fullShare (reg h e)) -∗ K ⟨⟩))
      ⊢ wp frame (wpE (defs₀ (F := F)) Variants.none c none) E (cc1__epilogue_kernel arg0 harg0 arg1 harg1 arg2 harg2 arg3 harg3 arg4 harg4) K := by
  simp only [cc1__epilogue_kernel_eq_skeleton]; unfold cc1__epilogue_kernel_skel
  simp only [k1_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  have l1 : arg1.view.readAt (Elt F) (Rect.unit (s := S64x64) ![0, 0] S64x64.size inb_S64x64_S64x64_0_0).toLoadRect f1 = w :=
    (View.readAt_full arg1.view _ _).trans hf1
  have l2 : arg2.view.readAt (Elt F) (Rect.unit (s := S1x10000x64) ![0, 0, 0] S1x10000x64.size inb_S1x10000x64_S1x10000x64_0_0_0).toLoadRect f2 = e :=
    (View.readAt_full arg2.view _ _).trans hf2
  subst hf0
  sl_exec
  sl_step
  iapply Hk
  isplitl [H0]; · iexists _; isplitr; · ipureintro; rfl
                  iexact H0
  isplitl [H1]; · iexists _; isplitr; · ipureintro; exact hf1
                  iexact H1
  isplitl [H2]; · iexists _; isplitr; · ipureintro; exact hf2
                  iexact H2
  isplitl [H3]
  · iexists _; isplitr
    swap; · iexact H3
    ipureintro
    delta run.sl.r run.sl.r_1 run.sl.r_2
    exact View.read_writes_eq_canon _ _ _ (scorePieces_cover (arg0.view.read (Elt F) f0) w)
  iexists _; isplitr
  swap; · iexact H4
  ipureintro
  exact View.read_writes_full arg4.view f4 _ _ []

-- the contents of the buffers of every core when the region is entered
variable (V : (c : Dev nD) → (b : Ref sig .tc) → Buf (Elt F) ((c : Thread nD τ).loc b))

/-- Window `w`'s block, of the contents the region is entered with. -/
def block (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data. -/
def dat (c : Dev nD) : Dat τ (Elt F) Unit ℕ (UR sig nD τ) ℕ cfg1 c where
  A w := V c (Pipeline.arrRef spec1 w)
  after w t := match w with
    | ⟨0, _⟩ => block V c 0 t
    | ⟨1, _⟩ => block V c 1 t
    | ⟨2, _⟩ => block V c 2 t
    | ⟨3, _⟩ => scores (block V c 0 t) (block V c 1 t)
    | ⟨4, _⟩ => reg (block V c 0 t) (block V c 2 t)
  Φ _ := Pipeline.ΦA spec1 c
  q _ := fullShare
  owed _ := 0

/-- A window's array starts at what the region is entered with. -/
theorem dat_A (c : Dev nD) (w : Fin cfg1.W) : (dat V c).A w = V c (Pipeline.arrRef spec1 w) := by dsimp only [dat]
/-- The body leaves the hidden array's buffer at its block. -/
theorem after_0 (c : Dev nD) (t : Fin cfg1.N) : (dat V c).after 0 t = block V c 0 t := by dsimp only [dat]
/-- It leaves the bilinear weights' buffer at its block. -/
theorem after_1 (c : Dev nD) (t : Fin cfg1.N) : (dat V c).after 1 t = block V c 1 t := by dsimp only [dat]
/-- It leaves the node embedding's buffer at its block. -/
theorem after_2 (c : Dev nD) (t : Fin cfg1.N) : (dat V c).after 2 t = block V c 2 t := by dsimp only [dat]
/-- It leaves the scores in their buffer. -/
theorem after_3 (c : Dev nD) (t : Fin cfg1.N) : (dat V c).after 3 t = scores (block V c 0 t) (block V c 1 t) := by dsimp only [dat]
/-- It leaves the loss in its buffer. -/
theorem after_4 (c : Dev nD) (t : Fin cfg1.N) : (dat V c).after 4 t = reg (block V c 0 t) (block V c 2 t) := by dsimp only [dat]

/-- An input window's buffer holds its block when the body starts. -/
theorem before_in (c : Dev nD) (w : Fin cfg1.W) (hout : (cfg1.win w).isOut = false) (hidle : ∀ i, cfg1.idle w i = false)
    (hclip : ∀ t t' : Fin cfg1.N, (cfg1.win w).index t = (cfg1.win w).index t' → (cfg1.win w).clip (cfg1.grid.coords t) = (cfg1.win w).clip (cfg1.grid.coords t'))
    (hkeep : ∀ t, (cfg1.win w).cut (cfg1.grid.coords t) ((dat V c).after w t) = block V c w t)
    (t : Fin cfg1.N) (d) : (dat V c).before w t d = (dat V c).fetched w t d :=
  (dat V c).before_in_eq_fetched w hout hidle hclip (fun t => by rw [hkeep]; unfold Dat.blockOf block; rw [dat_A]) t d

/-- The hidden array is in its buffer when the body starts. -/
theorem before_0 (c : Dev nD) (t : Fin cfg1.N) (d) : (dat V c).before 0 t d = block V c 0 t :=
  (before_in V c 0 rfl (fun _ => rfl) (fun _ _ _ => rfl) (fun t => by rw [after_0]) t d).trans
    (by unfold Dat.fetched Dat.blockOf block; rw [dat_A]; rfl)
/-- So are the bilinear weights. -/
theorem before_1 (c : Dev nD) (t : Fin cfg1.N) (d) : (dat V c).before 1 t d = block V c 1 t :=
  (before_in V c 1 rfl (fun _ => rfl) (fun _ _ _ => rfl) (fun t => by rw [after_1]) t d).trans
    (by unfold Dat.fetched Dat.blockOf block; rw [dat_A]; rfl)
/-- So is the node embedding. -/
theorem before_2 (c : Dev nD) (t : Fin cfg1.N) (d) : (dat V c).before 2 t d = block V c 2 t :=
  (before_in V c 2 rfl (fun _ => rfl) (fun _ _ _ => rfl) (fun t => by rw [after_2]) t d).trans
    (by unfold Dat.fetched Dat.blockOf block; rw [dat_A]; rfl)

/-- What the body is called with, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at the region's point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl, after_0, after_1, after_2, after_3, after_4]
  iintro ⟨HΦ, Ho, ⟨%d0, H0⟩, ⟨%d1, H1⟩, ⟨%d2, H2⟩, ⟨%d3, H3⟩, ⟨%d4, H4⟩⟩
  iapply (run c Set.univ _ _ _ _ _ _ _ _ _ _ (block V c 0 t) (block V c 1 t) (block V c 2 t) _)
  isplitl [H0]; · iexact H0
  isplitl [H1]; · iexact H1
  isplitl [H2]; · iexact H2
  isplitl [H3]; · iexists _; iexact H3
  isplitl [H4]; · iexists _; iexact H4
  iintro Hall
  isplitl [HΦ]; · iexact HΦ
  isplitl [Ho]; · iexact Ho
  iexact Hall

/-- The region's body, called with its buffers. -/
theorem defs_row (t : Fin cfg1.N) : defs₀ (F := F) .tc cfg1.body (cfg1.bodyArgs t (cfg1.slots t)) = bodyAt1 t := by
  unfold defs₀; rw [Defs.onTc_tc]

/-- The body's obligation at the region's point. -/
theorem body_obligation (c : Dev nD) : BodyObligation (dat V c) (defs₀ (F := F)) Variants.none () Set.univ := fun t => by
  rw [bigSep_W1, bigSep_W1, defs_row]
  exact triple_restated (sound_body V c t) rfl .rfl fun _ => .rfl

end Cert.KernelIdeal.Epilogue

end
-- ==== Proof.KernelRun.lean ====
/- The kernel's whole run: what every buffer holds between the items of @main, the two regions as segments over those
   contents, and the run of @main to the last of them, every semaphore counter at zero. Stated over any float
   interpretation `F`; the frame of the machine's program and of the idealized one are both instances of it. -/
module

public import proofs.«01_k».proof.Proof.PropagateRegion
public import proofs.«01_k».proof.Proof.Epilogue
public import proofs.«01_k».proof.Proof.Gen.KernelIdeal.Regions
public import Idealize.ShloMosaic.Lib.Pipeline.RegionsLoop
public import Idealize.ShloMosaic.Lib.Pipeline.FrameSuffix

@[expose] public section

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- When the propagation region is entered: the reshapes done. -/
abbrev in0 (c : Dev nD) (b : Ref sig .tc) : Buf (Elt F) ((c : Thread nD τ).loc b) := V1 m c b

/-- The propagation region's proof data at those contents. -/
abbrev dat0 (c : Dev nD) : Dat τ (Elt F) Unit ℕ (UR sig nD τ) ℕ cfg0 c := Propagate.dat (in0 m) c

/-- After the propagation region: `main_v3` at what the region wrote back. -/
def X2 (c : Dev nD) : Valuation τ sig (Elt F) := Function.update (V1 m c) main_v3 ((dat0 m c).arrAt 8 cfg0.N)

/-- When the epilogue region is entered. -/
abbrev in1 (c : Dev nD) (b : Ref sig .tc) : Buf (Elt F) ((c : Thread nD τ).loc b) := X2 m c b

/-- The epilogue region's proof data at those contents. -/
abbrev dat1 (c : Dev nD) : Dat τ (Elt F) Unit ℕ (UR sig nD τ) ℕ cfg1 c := Epilogue.dat (in1 m) c

/-- After the epilogue region: `main_v4_0` and `main_v4_1` at what the region wrote back. -/
def X3 (c : Dev nD) : Valuation τ sig (Elt F) :=
  Function.update (Function.update (X2 m c) main_v4_0 ((dat1 m c).arrAt 3 cfg1.N)) main_v4_1 ((dat1 m c).arrAt 4 cfg1.N)

abbrev out1 (c : Dev nD) (b : Ref sig .tc) : Buf (Elt F) ((c : Thread nD τ).loc b) := X3 m c b

/-- At the end: the host operations after the regions done. -/
def X4 (c : Dev nD) : Valuation τ sig (Elt F) := StableHlo.after hostOps2 (X3 m c)

/-- The first call changes no other buffer than its result. -/
theorem X2_ne (c : Dev nD) (r : Ref sig .tc) (h : r ≠ main_v3) : X2 m c r = V1 m c r :=
  Function.update_of_ne (StableHlo.devRef_ne_of_ne h) _ _
/-- The first call leaves its output array in its result. -/
theorem X2_v3 (c : Dev nD) : X2 m c main_v3 = (dat0 m c).arrAt 8 cfg0.N := Function.update_self _ _ _
/-- The second call changes no other buffers than its two results. -/
theorem X3_ne (c : Dev nD) (r : Ref sig .tc) (h0 : r ≠ main_v4_0) (h1 : r ≠ main_v4_1) : X3 m c r = X2 m c r :=
  (Function.update_of_ne (StableHlo.devRef_ne_of_ne h1) _ _).trans (Function.update_of_ne (StableHlo.devRef_ne_of_ne h0) _ _)
/-- The second call leaves the scores' array in its first result. -/
theorem X3_v4_0 (c : Dev nD) : X3 m c main_v4_0 = (dat1 m c).arrAt 3 cfg1.N :=
  (Function.update_of_ne (StableHlo.devRef_ne_of_ne (by decide)) _ _).trans (Function.update_self _ _ _)
/-- The second call leaves the loss's array in its second result. -/
theorem X3_v4_1 (c : Dev nD) : X3 m c main_v4_1 = (dat1 m c).arrAt 4 cfg1.N := Function.update_self _ _ _

/-- A buffer that no item writes ends as launched. -/
theorem X4_of (c : Dev nD) (r : Ref sig .tc) (h : r ∉ hostOps2_W ++ [main_v4_0, main_v4_1, main_v3] ++ hostOps0_W) :
    X4 m c r = m ((c : Thread nD τ).loc r) := by
  simp only [List.mem_append, not_or] at h
  obtain ⟨⟨h2, hr⟩, h0⟩ := h
  simp only [List.mem_cons, not_or] at hr
  obtain ⟨r0, r1, r3, -⟩ := hr
  exact (StableHlo.after_of_writes_sub hostOps2 _ hostOps2_writes h2).trans
    ((X3_ne m c r r0 r1).trans ((X2_ne m c r r3).trans (V1_of m c r h0)))

/-! ## Each region's arrays at its exit -/

/-- After the first call each window's array is what the second starts from. -/
theorem exit0 (c : Dev nD) (w : Fin cfg0.W) : (dat0 m c).arrAt w cfg0.N = in1 m c (Pipeline.arrRef spec0 w) := by
  by_cases h : w = 8
  · subst h; exact (X2_v3 m c).symm
  · have hin : (cfg0.win w).isOut = false := by revert h; revert w; decide
    have hne : Pipeline.arrRef spec0 w ≠ main_v3 := by revert h; revert w; decide
    exact ((dat0 m c).arrAt_in w hin _).trans ((Propagate.dat_A (in0 m) c w).trans (X2_ne m c _ hne).symm)

/-- The first call leaves every buffer that is no window's array as it was. -/
theorem exit0_rest (c : Dev nD) : ∀ b, b ∉ Finset.univ.image (Pipeline.arrRef spec0) → in1 m c b = in0 m c b :=
  fun b hb => X2_ne m c b fun e => hb (Finset.mem_image.mpr ⟨8, Finset.mem_univ _, e ▸ rfl⟩)

/-- After the second call each window's array is what the last host operations start from. -/
theorem exit1 (c : Dev nD) (w : Fin cfg1.W) : (dat1 m c).arrAt w cfg1.N = out1 m c (Pipeline.arrRef spec1 w) := by
  by_cases h3 : w = 3
  · subst h3; exact (X3_v4_0 m c).symm
  · by_cases h4 : w = 4
    · subst h4; exact (X3_v4_1 m c).symm
    · have hin : (cfg1.win w).isOut = false := by revert h3 h4; revert w; decide
      have hne : Pipeline.arrRef spec1 w ≠ main_v4_0 ∧ Pipeline.arrRef spec1 w ≠ main_v4_1 := by revert h3 h4; revert w; decide
      exact ((dat1 m c).arrAt_in w hin _).trans ((Epilogue.dat_A (in1 m) c w).trans (X3_ne m c _ hne.1 hne.2).symm)

/-- The second call leaves every buffer that is no window's array as it was. -/
theorem exit1_rest (c : Dev nD) : ∀ b, b ∉ Finset.univ.image (Pipeline.arrRef spec1) → out1 m c b = in1 m c b :=
  fun b hb => X3_ne m c b (fun e => hb (Finset.mem_image.mpr ⟨3, Finset.mem_univ _, e ▸ rfl⟩))
    fun e => hb (Finset.mem_image.mpr ⟨4, Finset.mem_univ _, e ▸ rfl⟩)

/-! ## The segments -/

/-- The proof data of the two regions. -/
def pdats : (p : Fin 2) → (c : Dev nD) → Dat τ (Elt F) Unit ℕ (UR sig nD τ) ℕ (cfgs p) c
  | ⟨0, _⟩ => fun c => dat0 m c
  | ⟨1, _⟩ => fun c => dat1 m c

abbrev 𝒱₀ : Variants := Variants.none
abbrev L : GSem nD τ sig → Finset Unit := fun _ => ∅
abbrev lv : GSem nD τ sig → Unit → ℕ := fun _ _ => 0

/-- What rides beside the buffers through every item: the generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- The propagation region as a segment. Five of its windows stage one array, whose share is dealt among them at entry and
    rejoined at exit. -/
def region0 : Pipeline.RegionSeg (pcfgs (F := F)) adm (pdats m) () defs₀ 𝒱₀ L lv 0 where
  win := launch₀0.win
  block_pos := launch₀0.block_pos
  stage_whole := launch₀0.stage_whole
  K := PEmpty
  osem k := k.elim
  ho := Pipeline.OwnSemFacts.none _
  hbody c := (Propagate.body_obligation (in0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs_shared (p := 0) (pcfgs (F := F)) adm (pdats m) launch₀0.win launch₀0.sharedIn launch₀0.arr_whole c
      (fun _ _ => rfl) (in0 m c) (Propagate.dat_A (in0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (Propagate.inv_in (in0 m) c)
    unfold Pipeline.ΦA
    iintro ⟨Hp, -, Hr⟩
    isplitl [Hr]; · iexact Hr
    iexact Hp
  hout c := by
    refine (Propagate.inv_out (in0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m) (fun _ _ => rfl)
      (in0 m c) (in1 m c) ((pdats m 0 c).arrAt · cfg0.N) (exit0 m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The epilogue region as a segment. -/
def region1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Epilogue.body_obligation (in1 m) c).loose
  hwaits := Pipeline.hwaits_of_owed_zero _ _ _ _ L lv 1 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in1 m c) (Epilogue.dat_A (in1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in1 m c) (out1 m c) ((pdats m 1 c).arrAt · cfg1.N) (exit1 m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host operations after the regions as a segment. -/
def tail : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (X3 m) R

/-- @main's items as segments. -/
abbrev items : List (Pipeline.Seg (pcfgs (F := F)) adm (pdats m) () defs₀ 𝒱₀ L lv) :=
  [.host (seg0 m 𝒱₀ L lv fun _ => R), .region (region0 m), .region (region1 m), .host (tail m)]

/-- An unscoped reference is among those whose contents the run states. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The whole run: from any memory with zero counters every execution of @main terminates, and every final state holds each
    unscoped buffer at `X4` and has every semaphore counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = X4 m c b) ∧ r.2.sem = fun _ => 0) :=
  Pipeline.θ_run_regions_kit_sems (pcfgs (F := F)) adm (pdats m) () cellOf_inj emb₁ defs₀ 𝒱₀ L lv m ρ main (items m)
    (fun c Q => by rw [show main (F := F) c = Pipeline.Seg.run (items m) from (main_chain c).trans (by chain_rfl)])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (X4 m c) ∗ ∃ r, prngReg c r))
    (hch := ⟨fun _ => .rfl, fun _ => .rfl, fun _ => .rfl, fun _ => .rfl, fun c => by
      dsimp only [Pipeline.Seg.post, tail, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X4 m c b)
    (hfin := fun c s' => by
      iintro ⟨⟨Hh, -⟩, HSI⟩
      unfold StableHlo.held
      imodintro
      iapply (pointsTo_read_all (Pipeline.ucRefs τ sig) (fun b => (((c : Thread nD τ)).1, b)) (X4 m c) s')
      isplitl [Hh] <;> iassumption)
    (hQ := fun s h hz => ⟨h, funext fun g => hz g (.inr (regions_no_unscoped g.2))⟩)

end Cert.KernelIdeal.Run

end
-- ==== Proof.Frames.lean ====
/- The frames: from any memory with every semaphore counter at zero, each program ends with its arguments unchanged and
   every counter at zero. The kernel's two printings are one text, so a run of the idealized printing at the machine's
   floats is a run of the machine's program. -/
module

public import proofs.«01_k».proof.Proof.KernelRun
public import proofs.«01_k».proof.Proof.Gen.Kernel.Regions
public import proofs.«01_k».proof.Proof.Gen.ReferenceIdeal.Run
public import proofs.«01_k».proof.Defs
public import Idealize.ShloMosaic.Lib.Tactic
public import Idealize.ShloMosaic.Lib.Quiescent

@[expose] public section

noncomputable section

namespace Cert.KernelIdeal.Run

open Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The run, read at the two results and the eleven arguments: the results end at what the last host operations write,
    the arguments at what they held, every counter at zero. -/
theorem run_read : θ_run defs (onTc (τ := τ) (main (F := F))) ⟨m, fun _ => 0, ρ⟩ (fun r =>
    (∀ c : Dev nD, r.2.mem ((c.tc : Thread nD τ).loc main_v12) = X4 m c main_v12
      ∧ r.2.mem ((c.tc : Thread nD τ).loc main_v13) = X4 m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
    ∧ r.2.sem = fun _ => 0) :=
  (θ_run defs _ _).mono (fun r h => by
    have read (c : Dev nD) (b : Ref sig .tc) (hb : ¬ (Proc.devRef .tc b : DevRef τ sig).isScoped) :
        r.2.mem ((c.tc : Thread nD τ).loc b) = X4 m c b := h.1 c _ (mem_uc b hb)
    have keep (c : Dev nD) (b : Ref sig .tc) (hb : ¬ (Proc.devRef .tc b : DevRef τ sig).isScoped)
        (hn : b ∉ hostOps2_W ++ [main_v4_0, main_v4_1, main_v3] ++ hostOps0_W) :
        r.2.mem ((c.tc : Thread nD τ).loc b) = m ((c.tc : Thread nD τ).loc b) := (read c b hb).trans (X4_of m c b hn)
    exact ⟨fun c => ⟨read c main_v12 (by decide), read c main_v13 (by decide),
      keep c main_arg0 (by decide) (by decide),
      keep c main_arg1 (by decide) (by decide),
      keep c main_arg2 (by decide) (by decide),
      keep c main_arg3 (by decide) (by decide),
      keep c main_arg4 (by decide) (by decide),
      keep c main_arg5 (by decide) (by decide),
      keep c main_arg6 (by decide) (by decide),
      keep c main_arg7 (by decide) (by decide),
      keep c main_arg8 (by decide) (by decide),
      keep c main_arg9 (by decide) (by decide),
      keep c main_arg10 (by decide) (by decide)⟩, h.2⟩) (run m ρ)

end Cert.KernelIdeal.Run

namespace Cert.Frames

open Idealize.ShloMosaic Idealize.ShloMosaic.TcCoe Idealize.SL.Sem

/-- The frame of the idealized kernel, at any float values. -/
theorem kernel {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0) :=
  (θ_run _ _ _).mono (fun _ h => ⟨fun c => (h.1 c).2.2, h.2⟩) (Cert.KernelIdeal.Run.run_read m g)

/-- The idealized kernel leaves its arguments unchanged and every counter at zero. -/
theorem kernel_ideal : Cert.quiescent_KernelIdeal := fun m g _ => kernel (F := Ideal) m g

/-- The machine's kernel leaves its arguments unchanged and every counter at zero. -/
theorem kernel_bits : Cert.quiescent_Kernel := fun m g _ => Eq.mpr (by sl_kernel_rfl) (kernel (F := Bits) m g)

end Cert.Frames

end
-- ==== Proof.PropagateValue.lean ====
/- What one point of the propagation region computes, over the extended reals: the scratch holds `[x · w | s · w]`, and the
   output block the rows `max (a · scratch) 0` of the point's five row blocks of the adjacency. -/
module

public import proofs.«01_k».proof.Proof.PropagateBody
public import Idealize.ShloMosaic.Lib.Pointwise

@[expose] public section

set_option maxRecDepth 16384

noncomputable section

namespace Cert.KernelIdeal.Propagate

open Cert.KernelIdeal.Gen
open Idealize.ShloMosaic Idealize.ShloMosaic.TcCoe
open scoped BigOperators

/-- Every index of a rank-3 array whose first axis has one coordinate is `ix3 0 r l`. -/
theorem exists_ix3 {n k : ℕ} (x : Shape.Idx ⟨3, ![1, n, k]⟩) : ∃ (r : Fin n) (l : Fin k), x = ix3 0 r l := by
  refine ⟨x 1, x 2, ?_⟩
  funext a
  match a with
  | ⟨0, _⟩ => exact Subsingleton.elim (α := Fin 1) _ _
  | ⟨1, _⟩ => rfl
  | ⟨2, _⟩ => rfl

/-- Every index of a rank-2 array is `ix2 r l`. -/
theorem exists_ix2 {n k : ℕ} (x : Shape.Idx ⟨2, ![n, k]⟩) : ∃ (r : Fin n) (l : Fin k), x = ix2 r l := by
  refine ⟨x 0, x 1, ?_⟩
  funext a
  match a with
  | ⟨0, _⟩ => rfl
  | ⟨1, _⟩ => rfl

/-! ## The scratch -/

/-- Row `j`, column `l` of `[f · w | s · w]`, each product 64 columns wide. -/
def both (f s : FVec Ideal S1x10000x128 .f32) (w : FVec Ideal S1x128x64 .f32) : FVec Ideal S10000x128 .f32 := fun y =>
  ∑ i : Fin 128, (if (y 1).val < 64 then f else s) (ix3 0 (y 0) i) * w (ix3 0 i ⟨(y 1).val % 64, Nat.mod_lt _ (by decide)⟩)

/-- The left half of the scratch holds the products of the features. -/
theorem both_left (f s : FVec Ideal S1x10000x128 .f32) (w : FVec Ideal S1x128x64 .f32) (j : Fin 10000) (k : Fin 64)
    (y : S10000x128.Idx) (h0 : (y 0).val = j.val) (h1 : (y 1).val = k.val) : both f s w y = ∑ i : Fin 128, f (ix3 0 j i) * w (ix3 0 i k) := by
  have e0 : y 0 = j := Fin.ext h0
  have e1 : (⟨(y 1).val % 64, Nat.mod_lt _ (by decide)⟩ : Fin 64) = k := Fin.ext (by have := k.isLt; simp only; omega)
  rw [both, e0, e1, if_pos (by have := k.isLt; omega)]

/-- The right half of the scratch holds the products of the shuffled features. -/
theorem both_right (f s : FVec Ideal S1x10000x128 .f32) (w : FVec Ideal S1x128x64 .f32) (j : Fin 10000) (k : Fin 64)
    (y : S10000x128.Idx) (h0 : (y 0).val = j.val) (h1 : (y 1).val = 64 + k.val) : both f s w y = ∑ i : Fin 128, s (ix3 0 j i) * w (ix3 0 i k) := by
  have e0 : y 0 = j := Fin.ext h0
  have e1 : (⟨(y 1).val % 64, Nat.mod_lt _ (by decide)⟩ : Fin 64) = k := Fin.ext (by have := k.isLt; simp only; omega)
  rw [both, e0, e1, if_neg (by omega)]

/-- The scratch once filled holds `[f · w | s · w]`. -/
theorem filled_eq (f s : FVec Ideal S1x10000x128 .f32) (w : FVec Ideal S1x128x64 .f32) : filled (F := Ideal) f s w = both f s w := by
  unfold filled
  funext y
  refine View.canon_apply_of_pieces (both f s w) (fillPieces (F := Ideal) f s w) (List.forall_mem_cons.2 ⟨?_, List.forall_mem_cons.2 ⟨?_, fun _ h => absurd h List.not_mem_nil⟩⟩) y (fillPieces_cover (F := Ideal) f s w y)
  · intro (x : S10000x64.Idx)
    obtain ⟨j, k, rfl⟩ := exists_ix2 x
    have h1 : k0_pay6 w s (ix2 j k) = ∑ i : Fin 128, s (ix3 0 j i) * w (ix3 0 i k) := by pointwise [k0_pay6, k0_pay4]
    exact h1.trans (both_right f s w j k _ (by simp [Rect.emb, Rect.unit, ix2]) (by simp [Rect.emb, Rect.unit, ix2, Nat.add_comm])).symm
  · intro (x : S10000x64.Idx)
    obtain ⟨j, k, rfl⟩ := exists_ix2 x
    have h1 : k0_pay5 w f (ix2 j k) = ∑ i : Fin 128, f (ix3 0 j i) * w (ix3 0 i k) := by pointwise [k0_pay5, k0_pay4]
    exact h1.trans (both_left f s w j k _ (by simp [Rect.emb, Rect.unit, ix2]) (by simp [Rect.emb, Rect.unit, ix2])).symm

/-! ## The output block -/

/-- Row `r`, column `l` of the nonnegative part of `A · z`. -/
def relu (A : Fin 400 → Fin 10000 → EReal) (z : FVec Ideal S10000x128 .f32) : FVec Ideal S1x400x128 .f32 := fun y =>
  max (∑ j : Fin 10000, A (y 1) j * z (ix2 j (y 2))) 0

/-- What each of the five stored row blocks holds. -/
theorem pay_rows (z : FVec Ideal S10000x128 .f32) (a : FVec Ideal S1x80x10000 .f32) (r : Fin 80) (l : Fin 128) :
    let v := max (∑ j : Fin 10000, a (ix3 0 r j) * z (ix2 j l)) 0
    k0_pay7 z a (ix3 0 r l) = v ∧ k0_pay8 z a (ix3 0 r l) = v ∧ k0_pay1 (k0_pay9 z a) (ix3 0 r l) = v
      ∧ k0_pay2 z a (ix3 0 r l) = v ∧ k0_pay3 z a (ix3 0 r l) = v := by
  refine ⟨?_, ?_, ?_, ?_, ?_⟩ <;> pointwise [k0_pay7, k0_pay8, k0_pay1, k0_pay9, k0_pay2, k0_pay3]

/-- Where the five row blocks are the rows of `A` in order, the output block is the nonnegative part of `A · z`. -/
theorem rows_eq (z : FVec Ideal S10000x128 .f32) (a : Fin 5 → FVec Ideal S1x80x10000 .f32) (A : Fin 400 → Fin 10000 → EReal)
    (ha : ∀ (q : Fin 5) (r : Fin 80) (j : Fin 10000), a q (ix3 0 r j) = A ⟨80 * q.val + r.val, by omega⟩ j) :
    rows (F := Ideal) z (a 0) (a 1) (a 2) (a 3) (a 4) = relu A z := by
  funext y
  have piece : ∀ (q : Fin 5) (u : FVec Ideal S1x80x128 .f32)
      (_ : ∀ (r : Fin 80) (l : Fin 128), u (ix3 0 r l) = max (∑ j : Fin 10000, a q (ix3 0 r j) * z (ix2 j l)) 0)
      (x : S1x80x128.Idx) (y : S1x400x128.Idx) (_ : (y 1).val = 80 * q.val + (x 1).val) (_ : (y 2).val = (x 2).val),
      u x = relu A z y := by
    intro q u hu x y h1 h2
    obtain ⟨r, l, rfl⟩ := exists_ix3 x
    have h1' : y 1 = (⟨80 * q.val + r.val, by have := q.isLt; have := r.isLt; omega⟩ : Fin 400) := Fin.ext h1
    have h2' : y 2 = l := Fin.ext h2
    rw [hu, relu, h1', h2']
    simp only [ha]
  have inc : ∀ q : Fin 5, ∀ u : FVec Ideal S1x80x128 .f32,
      (∀ (r : Fin 80) (l : Fin 128), u (ix3 0 r l) = max (∑ j : Fin 10000, a q (ix3 0 r j) * z (ix2 j l)) 0) →
      ∀ (off : Fin 3 → ℕ) (inb : ∀ b, off b + S1x80x128.size b ≤ S1x400x128.size b), off 1 = 80 * q.val → off 2 = 0 →
      ∀ x : S1x80x128.Idx, u x = relu A z ((Rect.unit (s := S1x400x128) off S1x80x128.size inb).emb x) :=
    fun q u hu off inb h1 h2 x => piece q u hu x _ (by simp [Rect.emb, Rect.unit, h1]) (by simp [Rect.emb, Rect.unit, h2])
  have all : ∀ p ∈ rowPieces (F := Ideal) z (a 0) (a 1) (a 2) (a 3) (a 4), ∀ x : p.1.shape.Idx, p.2 x = relu A z (p.1.emb x) := by
    refine List.forall_mem_cons.2 ⟨?_, List.forall_mem_cons.2 ⟨?_, List.forall_mem_cons.2 ⟨?_, List.forall_mem_cons.2 ⟨?_,
      List.forall_mem_cons.2 ⟨?_, fun _ h => absurd h List.not_mem_nil⟩⟩⟩⟩⟩
    · exact inc 4 _ (fun r l => (pay_rows z (a 4) r l).2.2.2.2) _ inb_S1x400x128_S1x80x128_0_320_0 rfl rfl
    · exact inc 3 _ (fun r l => (pay_rows z (a 3) r l).2.2.2.1) _ inb_S1x400x128_S1x80x128_0_240_0 rfl rfl
    · exact inc 2 _ (fun r l => (pay_rows z (a 2) r l).2.2.1) _ inb_S1x400x128_S1x80x128_0_160_0 rfl rfl
    · exact inc 1 _ (fun r l => (pay_rows z (a 1) r l).2.1) _ inb_S1x400x128_S1x80x128_0_80_0 rfl rfl
    · exact inc 0 _ (fun r l => (pay_rows z (a 0) r l).1) _ inb_S1x400x128_S1x80x128_0_0_0 rfl rfl
  exact View.canon_apply_of_pieces (relu A z) (rowPieces (F := Ideal) z (a 0) (a 1) (a 2) (a 3) (a 4)) all y
    (rowPieces_cover (F := Ideal) z (a 0) (a 1) (a 2) (a 3) (a 4) y)

end Cert.KernelIdeal.Propagate

end
-- ==== Proof.PropagateArray.lean ====
/- What the propagation region leaves in its output array, over the extended reals, as one equation at an index. -/
module

public import proofs.«01_k».proof.Proof.PropagateRegion
public import proofs.«01_k».proof.Proof.PropagateValue

@[expose] public section

set_option maxRecDepth 16384

noncomputable section

namespace Cert.KernelIdeal.Propagate

open Cert.KernelIdeal.Gen
open Idealize.ShloMosaic Idealize.ShloMosaic.TcCoe
open Idealize.ShloMosaic.Pipeline (Dat)
open scoped BigOperators

/-- Graph `g`, node `n`, column `l` of the hidden array: the nonnegative part of `A · (x · W)`, where `x` is `X` for the left
    64 columns and `S` for the right 64. -/
def hiddenAt (X S : FVec Ideal S2x10000x128 .f32) (W : FVec Ideal S2x128x64 .f32) (A : FVec Ideal S2x10000x10000 .f32)
    (g : Fin 2) (n : Fin 10000) (l : Fin 128) : EReal :=
  max (∑ j : Fin 10000, A (ix3 g n j) * ∑ i : Fin 128, (if l.val < 64 then X else S) (ix3 g j i)
    * W (ix3 g i ⟨l.val % 64, Nat.mod_lt _ (by decide)⟩)) 0

/-- The hidden array. -/
def hidden (X S : FVec Ideal S2x10000x128 .f32) (W : FVec Ideal S2x128x64 .f32) (A : FVec Ideal S2x10000x10000 .f32) :
    FVec Ideal S2x10000x128 .f32 := fun y => hiddenAt X S W A (y 0) (y 1) (y 2)

/-! ## Where a point's blocks lie -/

/-- Point `t` is graph `t / 25`, row block `t % 25`: the features', shuffled features' and weights' blocks are the graph's. -/
theorem graph_idx : ∀ t : Fin cfg0.N, win0_0.index t = ![t.val / 25, 0, 0] ∧ win0_1.index t = ![t.val / 25, 0, 0]
    ∧ win0_2.index t = ![t.val / 25, 0, 0] ∧ win0_8.index t = ![t.val / 25, t.val % 25, 0] ∧ t.val / 25 < 2 :=
  (by decide +kernel : ∀ t : Fin grid0.N, _)

/-- The five adjacency blocks of point `t` are five consecutive row blocks. -/
theorem row_idx : ∀ t : Fin cfg0.N, win0_3.index t = ![t.val / 25, 5 * (t.val % 25) + 0, 0] ∧ win0_4.index t = ![t.val / 25, 5 * (t.val % 25) + 1, 0]
    ∧ win0_5.index t = ![t.val / 25, 5 * (t.val % 25) + 2, 0] ∧ win0_6.index t = ![t.val / 25, 5 * (t.val % 25) + 3, 0]
    ∧ win0_7.index t = ![t.val / 25, 5 * (t.val % 25) + 4, 0] :=
  (by decide +kernel : ∀ t : Fin grid0.N, _)

/-- The output's block is written back at every point. -/
theorem flush_8 : ∀ t : Fin cfg0.N, (cfg0.win 8).flush t = true := (by decide +kernel : ∀ t : Fin grid0.N, win0_8.flush t = true)

variable (V : (c : Dev nD) → (b : Ref sig .tc) → Buf (Elt Ideal) ((c : Thread nD τ).loc b)) (c : Dev nD)

/-- The graph of point `t`. -/
abbrev graph (t : Fin cfg0.N) : Fin 2 := ⟨t.val / 25, (graph_idx t).2.2.2.2⟩

/-- The features' block of a point is its graph of the array. -/
theorem block_0 (t : Fin cfg0.N) (j : Fin 10000) (i : Fin 128) : block V c 0 t (ix3 0 j i) = V c main_v0 (ix3 (graph t) j i) := by
  show V c main_v0 (((cfg0.win 0).blk t).view.emb (ix3 0 j i)) = _
  congr 1
  have e := (graph_idx t).1
  funext a; apply Fin.ext
  match a with
  | ⟨0, _⟩ => show win0_0.index t (0 : Fin 3) * 1 + 1 * 0 = t.val / 25; rw [e]; simp
  | ⟨1, _⟩ => show win0_0.index t (1 : Fin 3) * 10000 + 1 * j.val = j.val; rw [e]; simp
  | ⟨2, _⟩ => show win0_0.index t (2 : Fin 3) * 128 + 1 * i.val = i.val; rw [e]; simp

/-- The shuffled features' block of a point is its graph of the array. -/
theorem block_1 (t : Fin cfg0.N) (j : Fin 10000) (i : Fin 128) : block V c 1 t (ix3 0 j i) = V c main_v1 (ix3 (graph t) j i) := by
  show V c main_v1 (((cfg0.win 1).blk t).view.emb (ix3 0 j i)) = _
  congr 1
  have e := (graph_idx t).2.1
  funext a; apply Fin.ext
  match a with
  | ⟨0, _⟩ => show win0_1.index t (0 : Fin 3) * 1 + 1 * 0 = t.val / 25; rw [e]; simp
  | ⟨1, _⟩ => show win0_1.index t (1 : Fin 3) * 10000 + 1 * j.val = j.val; rw [e]; simp
  | ⟨2, _⟩ => show win0_1.index t (2 : Fin 3) * 128 + 1 * i.val = i.val; rw [e]; simp

/-- The weights' block of a point is its graph of the array. -/
theorem block_2 (t : Fin cfg0.N) (i : Fin 128) (k : Fin 64) : block V c 2 t (ix3 0 i k) = V c main_arg7 (ix3 (graph t) i k) := by
  show V c main_arg7 (((cfg0.win 2).blk t).view.emb (ix3 0 i k)) = _
  congr 1
  have e := (graph_idx t).2.2.1
  funext a; apply Fin.ext
  match a with
  | ⟨0, _⟩ => show win0_2.index t (0 : Fin 3) * 1 + 1 * 0 = t.val / 25; rw [e]; simp
  | ⟨1, _⟩ => show win0_2.index t (1 : Fin 3) * 128 + 1 * i.val = i.val; rw [e]; simp
  | ⟨2, _⟩ => show win0_2.index t (2 : Fin 3) * 64 + 1 * k.val = k.val; rw [e]; simp

/-- The five adjacency blocks of a point. -/
def adjBlock (t : Fin cfg0.N) (q : Fin 5) : FVec Ideal S1x80x10000 .f32 := match q with
  | 0 => block V c 3 t
  | 1 => block V c 4 t
  | 2 => block V c 5 t
  | 3 => block V c 6 t
  | 4 => block V c 7 t

/-- Row `r` of the point's block `q` is row `400 i + 80 q + r` of its graph's adjacency, `i` the point's row block. -/
theorem adjBlock_apply (t : Fin cfg0.N) (q : Fin 5) (r : Fin 80) (j : Fin 10000) :
    adjBlock V c t q (ix3 0 r j)
      = V c main_v2 (ix3 (graph t) ⟨400 * (t.val % 25) + (80 * q.val + r.val), by have := q.isLt; have := r.isLt; omega⟩ j) := by
  obtain ⟨e3, e4, e5, e6, e7⟩ := row_idx t
  have place : ∀ (y x : S2x10000x10000.Idx), (y 0).val = (x 0).val → (y 1).val = (x 1).val → (y 2).val = (x 2).val → V c main_v2 y = V c main_v2 x := by
    intro y x h0 h1 h2
    congr 1
    funext a; apply Fin.ext
    match a with
    | ⟨0, _⟩ => exact h0
    | ⟨1, _⟩ => exact h1
    | ⟨2, _⟩ => exact h2
  have axes : ∀ (ix : Fin 3 → ℕ) (q : ℕ), ix = ![t.val / 25, 5 * (t.val % 25) + q, 0] →
      ix 0 * 1 + 1 * 0 = t.val / 25 ∧ ix 1 * 80 + 1 * r.val = 400 * (t.val % 25) + (80 * q + r.val) ∧ ix 2 * 10000 + 1 * j.val = j.val := by
    rintro ix q rfl
    refine ⟨by simp, ?_, by simp⟩
    show (5 * (t.val % 25) + q) * 80 + 1 * r.val = _
    omega
  match q with
  | 0 => obtain ⟨h0, h1, h2⟩ := axes _ _ e3; exact place (((cfg0.win 3).blk t).view.emb (ix3 0 r j)) _ h0 h1 h2
  | 1 => obtain ⟨h0, h1, h2⟩ := axes _ _ e4; exact place (((cfg0.win 4).blk t).view.emb (ix3 0 r j)) _ h0 h1 h2
  | 2 => obtain ⟨h0, h1, h2⟩ := axes _ _ e5; exact place (((cfg0.win 5).blk t).view.emb (ix3 0 r j)) _ h0 h1 h2
  | 3 => obtain ⟨h0, h1, h2⟩ := axes _ _ e6; exact place (((cfg0.win 6).blk t).view.emb (ix3 0 r j)) _ h0 h1 h2
  | 4 => obtain ⟨h0, h1, h2⟩ := axes _ _ e7; exact place (((cfg0.win 7).blk t).view.emb (ix3 0 r j)) _ h0 h1 h2

/-! ## The output -/

/-- Row `r`, column `l` of a point's output block is row `400 i + r` of its graph of the hidden array. -/
theorem outAt_apply (t : Fin cfg0.N) (r : Fin 400) (l : Fin 128) :
    outAt V c t (ix3 0 r l) = hiddenAt (V c main_v0) (V c main_v1) (V c main_arg7) (V c main_v2) (graph t)
      ⟨400 * (t.val % 25) + r.val, by have := r.isLt; omega⟩ l := by
  have h := rows_eq (scratchAt V c t) (adjBlock V c t) (fun r j => V c main_v2 (ix3 (graph t) ⟨400 * (t.val % 25) + r.val, by have := r.isLt; omega⟩ j))
    (adjBlock_apply V c t)
  refine (congrFun h (ix3 0 r l)).trans ?_
  rw [scratchAt, filled_eq]
  unfold relu hiddenAt both
  congr 1
  refine Finset.sum_congr rfl fun j _ => ?_
  congr 1
  refine Finset.sum_congr rfl fun i _ => ?_
  refine congrArg₂ (· * ·) ?_ (block_2 V c t i _)
  show (if l.val < 64 then block V c 0 t else block V c 1 t) (ix3 0 j i) = _
  by_cases hl : l.val < 64
  · rw [if_pos hl, if_pos hl]; exact block_0 V c t j i
  · rw [if_neg hl, if_neg hl]; exact block_1 V c t j i

/-- An index of the output is in point `t`'s block iff its graph and row block are the point's. -/
theorem mem_blk_8 (t : Fin cfg0.N) (i : S2x10000x128.Idx) : i ∈ ((cfg0.win 8).blk t).view.set
    ↔ ∀ a : Fin 3, win0_8.index t a * S1x400x128.size a ≤ (i a).val ∧ (i a).val < win0_8.index t a * S1x400x128.size a + S1x400x128.size a := by
  show i ∈ ((View.whole main_v3).slice (win0_8.rect t)).set ↔ _
  rw [View.set_slice_whole, Rect.mem_set_unit]
  exact Iff.rfl

/-- The output array ends holding the hidden array of the region's operands. -/
theorem out_array : (dat V c).arrAt 8 cfg0.N = hidden (V c main_v0) (V c main_v1) (V c main_arg7) (V c main_v2) := by
  refine (dat V c).arrAt_eq_of_cover 8 _ (fun t _ => ?_) (fun i => ?_)
  · show (cfg0.win 8).cut (grid0.coords t) ((dat V c).after 8 t) = _
    rw [after_8]
    have e := (graph_idx t).2.2.2.1
    funext (y : S1x400x128.Idx)
    obtain ⟨r, l, rfl⟩ := exists_ix3 y
    refine (outAt_apply V c t r l).trans ?_
    show _ = hidden (V c main_v0) (V c main_v1) (V c main_arg7) (V c main_v2) (((cfg0.win 8).blk t).view.emb (ix3 0 r l))
    unfold hidden
    congr 1 <;> apply Fin.ext
    · show t.val / 25 = win0_8.index t (0 : Fin 3) * 1 + 1 * 0; rw [e]; simp
    · show 400 * (t.val % 25) + r.val = win0_8.index t (1 : Fin 3) * 400 + 1 * r.val; rw [e]; simp [Nat.mul_comm]
    · show l.val = win0_8.index t (2 : Fin 3) * 128 + 1 * l.val; rw [e]; simp
  · have h0 : (i 0).val < 2 := (i 0).isLt
    have h1 : (i 1).val < 10000 := (i 1).isLt
    have h2 : (i 2).val < 128 := (i 2).isLt
    have ht : 25 * (i 0).val + (i 1).val / 400 < cfg0.N := lt_of_lt_of_eq (by omega : _ < 50) N_0.symm
    refine ⟨⟨25 * (i 0).val + (i 1).val / 400, ht⟩, flush_8 _, (mem_blk_8 _ i).2 ?_⟩
    rw [(graph_idx ⟨25 * (i 0).val + (i 1).val / 400, ht⟩).2.2.2.1]
    intro a
    match a with
    | ⟨0, _⟩ =>
      show (25 * (i 0).val + (i 1).val / 400) / 25 * 1 ≤ (i 0).val ∧ (i 0).val < (25 * (i 0).val + (i 1).val / 400) / 25 * 1 + 1
      omega
    | ⟨1, _⟩ =>
      show (25 * (i 0).val + (i 1).val / 400) % 25 * 400 ≤ (i 1).val ∧ (i 1).val < (25 * (i 0).val + (i 1).val / 400) % 25 * 400 + 400
      omega
    | ⟨2, _⟩ =>
      show 0 * 128 ≤ (i 2).val ∧ (i 2).val < 0 * 128 + 128
      omega

end Cert.KernelIdeal.Propagate

end
-- ==== Proof.EpilogueValue.lean ====
/- What the epilogue region computes, over the extended reals: the four columns of scores and the regulariser, each as an
   equation at an index, and what its two output arrays end holding. -/
module

public import proofs.«01_k».proof.Proof.Epilogue
public import proofs.«01_k».proof.Proof.PropagateValue

@[expose] public section

set_option maxRecDepth 16384

noncomputable section

namespace Cert.KernelIdeal.Epilogue

open Cert.KernelIdeal.Gen
open Cert.KernelIdeal.Propagate (exists_ix2 exists_ix3)
open Idealize.ShloMosaic Idealize.ShloMosaic.TcCoe
open Idealize.ShloMosaic.Pipeline (Dat)
open scoped BigOperators

/-! ## The four quarters of the hidden array -/

/-- An entry of the first graph's left half. -/
theorem left0_apply (h : FVec Ideal S2x10000x128 .f32) (n : Fin 10000) (k : Fin 64) :
    left0 (F := Ideal) h (ix3 0 n k) = h (ix3 0 n ⟨k.val, by have := k.isLt; omega⟩) := by
  pointwise [left0]
/-- An entry of the first graph's right half. -/
theorem right0_apply (h : FVec Ideal S2x10000x128 .f32) (n : Fin 10000) (k : Fin 64) :
    right0 (F := Ideal) h (ix3 0 n k) = h (ix3 0 n ⟨64 + k.val, by have := k.isLt; omega⟩) := by
  pointwise [right0]
/-- An entry of the second graph's left half. -/
theorem left1_apply (h : FVec Ideal S2x10000x128 .f32) (n : Fin 10000) (k : Fin 64) :
    left1 (F := Ideal) h (ix3 0 n k) = h (ix3 1 n ⟨k.val, by have := k.isLt; omega⟩) := by
  pointwise [left1]
/-- An entry of the second graph's right half. -/
theorem right1_apply (h : FVec Ideal S2x10000x128 .f32) (n : Fin 10000) (k : Fin 64) :
    right1 (F := Ideal) h (ix3 0 n k) = h (ix3 1 n ⟨64 + k.val, by have := k.isLt; omega⟩) := by
  pointwise [right1]

/-! ## The scores -/

/-- A readout at column `j`: the logistic of the mean over the nodes. -/
def readout (a : FVec Ideal S1x10000x64 .f32) (j : Fin 64) : EReal :=
  Ideal.logistic (Ideal.div (∑ m : Fin 10000, a (ix3 0 m j)) (Ideal.ofBits .f32 0x461C4000#32))

/-- The score of node `n` of `b` against the readout of `a`: `w` is contracted with the readout first. -/
def score (w : FVec Ideal S64x64 .f32) (a b : FVec Ideal S1x10000x64 .f32) (n : Fin 10000) : EReal :=
  ∑ k : Fin 64, b (ix3 0 n k) * ∑ j : Fin 64, readout a j * w (ix2 k j)

/-- The weights contracted with a readout, as each graph's half of the body computes them. -/
theorem pay_weights (w : FVec Ideal S64x64 .f32) (a : FVec Ideal S1x10000x64 .f32) (k : Fin 64) :
    k1_pay5 (F := Ideal) w a (ix2 0 k) = ∑ j : Fin 64, readout a j * w (ix2 k j)
      ∧ k1_pay10 (F := Ideal) w a (ix2 0 k) = ∑ j : Fin 64, readout a j * w (ix2 k j) := by
  constructor <;> pointwise [k1_pay5, k1_pay4, k1_pay10, k1_pay8, readout]

/-- What each of the four stored columns holds. -/
theorem pay_scores (w : FVec Ideal S64x64 .f32) (a b : FVec Ideal S1x10000x64 .f32) (n : Fin 10000) :
    k1_pay6 (F := Ideal) w a (ix2 n 0) = score w a a n ∧ k1_pay7 (F := Ideal) w a b (ix2 n 0) = score w a b n
      ∧ k1_pay11 (F := Ideal) w a (ix2 n 0) = score w a a n
      ∧ k1_pay1 (F := Ideal) (k1_pay9 (F := Ideal) b) (k1_pay10 (F := Ideal) w a) (ix2 n 0) = score w a b n := by
  unfold score
  simp only [← (pay_weights w a _).1]
  refine ⟨?_, ?_, ?_, ?_⟩
  · pointwise [k1_pay6, k1_pay4]
  · pointwise [k1_pay7]
  · simp only [(pay_weights w a _).1, ← (pay_weights w a _).2]
    pointwise [k1_pay11, k1_pay8]
  · simp only [(pay_weights w a _).1, ← (pay_weights w a _).2]
    pointwise [k1_pay1, k1_pay9]

/-- Row `n` of column `q`: graph `q / 2`'s readout against its left columns (`q` even) or its right ones (`q` odd). -/
def scoreAt (h : FVec Ideal S2x10000x128 .f32) (w : FVec Ideal S64x64 .f32) (n : Fin 10000) (q : Fin 4) : EReal := match q with
  | 0 => score w (left0 (F := Ideal) h) (left0 (F := Ideal) h) n
  | 1 => score w (left0 (F := Ideal) h) (right0 (F := Ideal) h) n
  | 2 => score w (left1 (F := Ideal) h) (left1 (F := Ideal) h) n
  | 3 => score w (left1 (F := Ideal) h) (right1 (F := Ideal) h) n

/-- The scores. -/
def scoreArray (h : FVec Ideal S2x10000x128 .f32) (w : FVec Ideal S64x64 .f32) : FVec Ideal S10000x4 .f32 := fun y => scoreAt h w (y 0) (y 1)

/-- The body's four stores leave the scores. -/
theorem scores_eq (h : FVec Ideal S2x10000x128 .f32) (w : FVec Ideal S64x64 .f32) : scores (F := Ideal) h w = scoreArray h w := by
  unfold scores
  funext y
  have column : ∀ q : Fin 4, ∀ u : FVec Ideal S10000x1 .f32, (∀ n : Fin 10000, u (ix2 n 0) = scoreAt h w n q) →
      ∀ (off : Fin 2 → ℕ) (inb : ∀ b, off b + S10000x1.size b ≤ S10000x4.size b), off 0 = 0 → off 1 = q.val →
      ∀ x : S10000x1.Idx, u x = scoreArray h w ((Rect.unit (s := S10000x4) off S10000x1.size inb).emb x) := by
    intro q u hu off inb h0 h1 x
    obtain ⟨n, z, rfl⟩ := exists_ix2 x
    obtain rfl : z = 0 := Subsingleton.elim _ _
    rw [hu]
    unfold scoreArray
    congr 1 <;> apply Fin.ext
    · show n.val = off 0 + 1 * n.val; omega
    · show q.val = off 1 + 1 * 0; omega
  have all : ∀ p ∈ scorePieces (F := Ideal) h w, ∀ x : p.1.shape.Idx, p.2 x = scoreArray h w (p.1.emb x) := by
    refine List.forall_mem_cons.2 ⟨?_, List.forall_mem_cons.2 ⟨?_, List.forall_mem_cons.2 ⟨?_, List.forall_mem_cons.2 ⟨?_,
      fun _ h => absurd h List.not_mem_nil⟩⟩⟩⟩
    · exact column 3 _ (fun n => (pay_scores w _ _ n).2.2.2) _ inb_S10000x4_S10000x1_0_3 rfl rfl
    · exact column 2 _ (fun n => (pay_scores w _ (left1 (F := Ideal) h) n).2.2.1) _ inb_S10000x4_S10000x1_0_2 rfl rfl
    · exact column 1 _ (fun n => (pay_scores w _ _ n).2.1) _ inb_S10000x4_S10000x1_0_1 rfl rfl
    · exact column 0 _ (fun n => (pay_scores w _ (left0 (F := Ideal) h) n).1) _ inb_S10000x4_S10000x1_0_0 rfl rfl
  exact View.canon_apply_of_pieces (scoreArray h w) (scorePieces (F := Ideal) h w) all y (scorePieces_cover (F := Ideal) h w y)

/-! ## The regulariser -/

/-- The sum over nodes and columns of the squared difference of `e` and half the sum of two hidden arrays. -/
def loss (e a b : FVec Ideal S1x10000x64 .f32) : EReal :=
  ∑ n : Fin 10000, ∑ k : Fin 64, (e (ix3 0 n k) - Ideal.ofBits .f32 0x3F000000#32 * (a (ix3 0 n k) + b (ix3 0 n k)))
    * (e (ix3 0 n k) - Ideal.ofBits .f32 0x3F000000#32 * (a (ix3 0 n k) + b (ix3 0 n k)))

/-- The body leaves the loss of the features' columns less that of the shuffled features'. -/
theorem reg_apply (h : FVec Ideal S2x10000x128 .f32) (e : FVec Ideal S1x10000x64 .f32) :
    reg (F := Ideal) h e (ix2 0 0) = loss e (left0 (F := Ideal) h) (left1 (F := Ideal) h) - loss e (right0 (F := Ideal) h) (right1 (F := Ideal) h) := by
  unfold reg loss
  pointwise [k1_pay2, k1_pay3]

/-! ## The arrays -/

variable (V : (c : Dev nD) → (b : Ref sig .tc) → Buf (Elt Ideal) ((c : Thread nD τ).loc b)) (c : Dev nD)

/-- Every window's block is its whole array, and the one point writes both outputs back. -/
theorem whole_idx : ∀ t : Fin cfg1.N, win1_0.index t = ![0, 0, 0] ∧ win1_1.index t = ![0, 0] ∧ win1_2.index t = ![0, 0, 0]
    ∧ win1_3.index t = ![0, 0] ∧ win1_4.index t = ![0, 0] :=
  (by decide +kernel : ∀ t : Fin grid1.N, _)

/-- The first window's block is the whole hidden array. -/
theorem block_0 (t : Fin cfg1.N) : block V c 0 t = V c main_v3 := by
  funext (y : S2x10000x128.Idx)
  show V c main_v3 (((cfg1.win 0).blk t).view.emb y) = _
  congr 1
  have e := (whole_idx t).1
  funext a; apply Fin.ext
  match a with
  | ⟨0, _⟩ => show win1_0.index t (0 : Fin 3) * 2 + 1 * (y 0).val = (y 0).val; rw [e]; simp
  | ⟨1, _⟩ => show win1_0.index t (1 : Fin 3) * 10000 + 1 * (y 1).val = (y 1).val; rw [e]; simp
  | ⟨2, _⟩ => show win1_0.index t (2 : Fin 3) * 128 + 1 * (y 2).val = (y 2).val; rw [e]; simp

/-- The second window's block is all the bilinear weights. -/
theorem block_1 (t : Fin cfg1.N) : block V c 1 t = V c main_arg8 := by
  funext (y : S64x64.Idx)
  show V c main_arg8 (((cfg1.win 1).blk t).view.emb y) = _
  congr 1
  have e := (whole_idx t).2.1
  funext a; apply Fin.ext
  match a with
  | ⟨0, _⟩ => show win1_1.index t (0 : Fin 2) * 64 + 1 * (y 0).val = (y 0).val; rw [e]; simp
  | ⟨1, _⟩ => show win1_1.index t (1 : Fin 2) * 64 + 1 * (y 1).val = (y 1).val; rw [e]; simp

/-- The third window's block is all of the node embedding. -/
theorem block_2 (t : Fin cfg1.N) : block V c 2 t = V c main_arg10 := by
  funext (y : S1x10000x64.Idx)
  show V c main_arg10 (((cfg1.win 2).blk t).view.emb y) = _
  congr 1
  have e := (whole_idx t).2.2.1
  funext a; apply Fin.ext
  match a with
  | ⟨0, _⟩ => show win1_2.index t (0 : Fin 3) * 1 + 1 * (y 0).val = (y 0).val; rw [e]; simp
  | ⟨1, _⟩ => show win1_2.index t (1 : Fin 3) * 10000 + 1 * (y 1).val = (y 1).val; rw [e]; simp
  | ⟨2, _⟩ => show win1_2.index t (2 : Fin 3) * 64 + 1 * (y 2).val = (y 2).val; rw [e]; simp

/-- The one point. -/
abbrev pt : Fin cfg1.N := ⟨0, by decide⟩

/-- The scores' array ends holding the scores. -/
theorem scores_array : (dat V c).arrAt 3 cfg1.N = scoreArray (V c main_v3) (V c main_arg8) := by
  have place : ∀ (t : Fin cfg1.N) (y : S10000x4.Idx), ((cfg1.win 3).blk t).view.emb y = y := by
    intro t y
    have e := (whole_idx t).2.2.2.1
    funext a; apply Fin.ext
    match a with
    | ⟨0, _⟩ => show win1_3.index t (0 : Fin 2) * 10000 + 1 * (y 0).val = (y 0).val; rw [e]; simp
    | ⟨1, _⟩ => show win1_3.index t (1 : Fin 2) * 4 + 1 * (y 1).val = (y 1).val; rw [e]; simp
  refine (dat V c).arrAt_eq_of_cover 3 _ (fun t _ => ?_) (fun i => ⟨pt, by decide +kernel, ?_⟩)
  · show (cfg1.win 3).cut (grid1.coords t) ((dat V c).after 3 t) = _
    rw [after_3, block_0, block_1, scores_eq]
    funext (y : S10000x4.Idx)
    exact (congrArg (scoreArray (V c main_v3) (V c main_arg8)) (place t y)).symm
  · rw [show i = ((cfg1.win 3).blk pt).view.emb i from (place pt i).symm]
    exact Finset.mem_map_of_mem _ (Finset.mem_univ _)

/-- The regulariser's array ends holding the regulariser. -/
theorem reg_array : (dat V c).arrAt 4 cfg1.N = reg (F := Ideal) (V c main_v3) (V c main_arg10) := by
  have place : ∀ (t : Fin cfg1.N) (y : S1x1.Idx), ((cfg1.win 4).blk t).view.emb y = y := by
    intro t y
    have e := (whole_idx t).2.2.2.2
    funext a; apply Fin.ext
    match a with
    | ⟨0, _⟩ => show win1_4.index t (0 : Fin 2) * 1 + 1 * (y 0).val = (y 0).val; rw [e]; simp
    | ⟨1, _⟩ => show win1_4.index t (1 : Fin 2) * 1 + 1 * (y 1).val = (y 1).val; rw [e]; simp
  refine (dat V c).arrAt_eq_of_cover 4 _ (fun t _ => ?_) (fun i => ⟨pt, by decide +kernel, ?_⟩)
  · show (cfg1.win 4).cut (grid1.coords t) ((dat V c).after 4 t) = _
    rw [after_4, block_0, block_2]
    funext (y : S1x1.Idx)
    exact (congrArg (reg (F := Ideal) (V c main_v3) (V c main_arg10)) (place t y)).symm
  · rw [show i = ((cfg1.win 4).blk pt).view.emb i from (place pt i).symm]
    exact Finset.mem_map_of_mem _ (Finset.mem_univ _)

end Cert.KernelIdeal.Epilogue

end
-- ==== Proof.KernelValue.lean ====
/- What the whole kernel leaves in its two results, over the extended reals, in its arguments. -/
module

public import proofs.«01_k».proof.Proof.KernelRun
public import proofs.«01_k».proof.Proof.PropagateArray
public import proofs.«01_k».proof.Proof.EpilogueValue

@[expose] public section

set_option maxRecDepth 16384

noncomputable section

namespace Cert.KernelIdeal.Run

open Cert.KernelIdeal.Gen
open Idealize.ShloMosaic Idealize.ShloMosaic.TcCoe
open scoped BigOperators

variable (m : (ℓ : Loc nD τ sig) → Buf (Elt Ideal) ℓ) (c : Dev nD)

/-- An argument's contents at launch. -/
abbrev arg (b : Ref sig .tc) : Buf (Elt Ideal) ((c.tc : Thread nD τ).loc b) := m ((c.tc : Thread nD τ).loc b)

/-! ## The reshapes before the regions -/

/-- Dropping the unit axis keeps every element. -/
theorem drop_unit (x : FVec Ideal S2x1x10000x128 .f32) (g : Fin 2) (j : Fin 10000) (i : Fin 128) :
    shapeCast S2x10000x128 x shapeCasts_S2x1x10000x128_S2x10000x128 (ix3 g j i) = x (ix4 g 0 j i) := by pointwise []
/-- The adjacency reshaped without its unit axis, entry by entry. -/
theorem drop_unit' (a : FVec Ideal S2x1x10000x10000 .f32) (g : Fin 2) (n j : Fin 10000) :
    shapeCast S2x10000x10000 a shapeCasts_S2x1x10000x10000_S2x10000x10000 (ix3 g n j) = a (ix4 g 0 n j) := by pointwise []

/-- The first call's features are the argument's. -/
theorem in0_v0 (g : Fin 2) (j : Fin 10000) (i : Fin 128) : in0 m c main_v0 (ix3 g j i) = arg m c main_arg0 (ix4 g 0 j i) := by
  have h : in0 m c main_v0 = shapeCast S2x10000x128 (arg m c main_arg0) shapeCasts_S2x1x10000x128_S2x10000x128 := by
    show StableHlo.after hostOps0 _ _ = _
    after_results_simp
    rfl
  exact (congrFun h _).trans (drop_unit _ g j i)

/-- The first call's shuffled features are the argument's. -/
theorem in0_v1 (g : Fin 2) (j : Fin 10000) (i : Fin 128) : in0 m c main_v1 (ix3 g j i) = arg m c main_arg2 (ix4 g 0 j i) := by
  have h : in0 m c main_v1 = shapeCast S2x10000x128 (arg m c main_arg2) shapeCasts_S2x1x10000x128_S2x10000x128 := by
    show StableHlo.after hostOps0 _ _ = _
    after_results_simp
    rfl
  exact (congrFun h _).trans (drop_unit _ g j i)

/-- The first call's adjacency is the argument's. -/
theorem in0_v2 (g : Fin 2) (n j : Fin 10000) : in0 m c main_v2 (ix3 g n j) = arg m c main_arg1 (ix4 g 0 n j) := by
  have h : in0 m c main_v2 = shapeCast S2x10000x10000 (arg m c main_arg1) shapeCasts_S2x1x10000x10000_S2x10000x10000 := by
    show StableHlo.after hostOps0 _ _ = _
    after_results_simp
    rfl
  exact (congrFun h _).trans (drop_unit' _ g n j)

/-! ## The hidden array -/

/-- The hidden array the propagation region leaves. -/
def hid : FVec Ideal S2x10000x128 .f32 := in1 m c main_v3

/-- Graph `g`, node `n`, column `l` of the hidden array, in the features `x`, the shuffled features `s`, the adjacency `a` and
    the weights `w`: the left 64 columns are of `x`, the right 64 of `s`. -/
def hidAt (x s : FVec Ideal S2x1x10000x128 .f32) (a : FVec Ideal S2x1x10000x10000 .f32) (w : FVec Ideal S2x128x64 .f32)
    (g : Fin 2) (n : Fin 10000) (l : Fin 128) : EReal :=
  max (∑ j : Fin 10000, a (ix4 g 0 n j) * ∑ i : Fin 128, (if l.val < 64 then x else s) (ix4 g 0 j i)
    * w (ix3 g i ⟨l.val % 64, Nat.mod_lt _ (by decide)⟩)) 0

/-- The hidden array in the arguments. -/
theorem hid_apply (g : Fin 2) (n : Fin 10000) (l : Fin 128) :
    hid m c (ix3 g n l) = hidAt (arg m c main_arg0) (arg m c main_arg2) (arg m c main_arg1) (arg m c main_arg7) g n l := by
  have h : hid m c = Propagate.hidden (in0 m c main_v0) (in0 m c main_v1) (in0 m c main_arg7) (in0 m c main_v2) :=
    (X2_v3 m c).trans (Propagate.out_array (in0 m) c)
  rw [h]
  unfold Propagate.hidden Propagate.hiddenAt hidAt
  refine congrArg (max · 0) (Finset.sum_congr rfl fun j _ => congrArg₂ (· * ·) (in0_v2 m c g n j) (Finset.sum_congr rfl fun i _ =>
    congrArg₂ (· * ·) ?_ (congrFun (V1_of m c main_arg7 (by decide)) _)))
  show (if l.val < 64 then in0 m c main_v0 else in0 m c main_v1) (ix3 g j i) = _
  by_cases hl : l.val < 64
  · rw [if_pos hl, if_pos hl]; exact in0_v0 m c g j i
  · rw [if_neg hl, if_neg hl]; exact in0_v1 m c g j i

/-! ## The results -/

/-- The second call reads an argument that no earlier operation writes as it was at launch. -/
theorem in1_arg (b : Ref sig .tc) (h3 : b ≠ main_v3) (h0 : b ∉ hostOps0_W) : in1 m c b = arg m c b :=
  (X2_ne m c b h3).trans (V1_of m c b h0)

/-- The first result as the last host operations compute it: the scores, transposed and laid out by graph, plus the sample
    biases, plus the bias. -/
theorem out0_eq : X4 m c main_v12
    = addf (addf (shapeCast S2x1x20000 (transpose S4x10000 [1, 0] (Epilogue.scoreArray (hid m c) (arg m c main_arg8)) transposes_S10000x4_S4x10000_1_0)
          shapeCasts_S4x10000_S2x1x20000)
        (broadcastInDim S2x1x20000 ![0, 1, 2] bcast_S1x1x20000_S2x1x20000_0_1_2 (broadcastInDim S1x1x20000 ![1, 2] bcast_S1x20000_S1x1x20000_1_2
          (concatenate S1x20000 1 [⟨S1x10000, arg m c main_arg5⟩, ⟨S1x10000, arg m c main_arg6⟩] concatenates_S1x10000_S1x10000_S1x20000_d1))))
      (broadcastInDim S2x1x20000 ![] bcast_S_S2x1x20000 (arg m c main_arg9)) := by
  have keep : ∀ b : Ref sig .tc, b ≠ main_v4_0 → b ≠ main_v4_1 → b ≠ main_v3 → b ∉ hostOps0_W → X3 m c b = arg m c b :=
    fun b h0 h1 h3 hb => (X3_ne m c b h0 h1).trans (in1_arg m c b h3 hb)
  rw [← keep main_arg5 (by decide) (by decide) (by decide) (by decide), ← keep main_arg6 (by decide) (by decide) (by decide) (by decide),
    ← keep main_arg9 (by decide) (by decide) (by decide) (by decide), ← in1_arg m c main_arg8 (by decide) (by decide), hid,
    ← Epilogue.scores_array (in1 m) c, ← X3_v4_0 m c]
  unfold X4
  generalize X3 m c = X
  after_results_simp
  rfl

/-- The first result at node position `n` of graph `g`: the score, plus the sample bias, plus the bias. -/
theorem out0_apply (g : Fin 2) (n : Fin 20000) :
    (X4 m c main_v12 : FVec Ideal S2x1x20000 .f32) (ix3 g 0 n)
      = (Epilogue.scoreAt (hid m c) (arg m c main_arg8) ⟨n.val % 10000, Nat.mod_lt _ (by decide)⟩
            ⟨g.val * 2 + n.val / 10000, by have := n.isLt; have := g.isLt; omega⟩
          + (if hn : n.val < 10000 then (arg m c main_arg5 : FVec Ideal S1x10000 .f32) (ix2 0 ⟨n.val, hn⟩)
            else (arg m c main_arg6 : FVec Ideal S1x10000 .f32) (ix2 0 ⟨n.val - 10000, by have := n.isLt; omega⟩)))
        + (arg m c main_arg9 : FVec Ideal S_ .f32) ix0 := by
  rw [out0_eq]
  pointwise [Epilogue.scoreArray]

/-- The second result: the regulariser. -/
theorem out1_apply : (X4 m c main_v13 : FVec Ideal S_ .f32) ix0 = Epilogue.reg (F := Ideal) (hid m c) (arg m c main_arg10) (ix2 0 0) := by
  unfold X4
  after_results_simp
  rw [X3_v4_1, Epilogue.reg_array, in1_arg m c main_arg10 (by decide) (by decide)]
  pointwise []
  rfl

end Cert.KernelIdeal.Run

end
-- ==== Proof.Reference.lean ====
/- What the reference computes, in named steps and read at an index. The steps are the reference's own operations, grouped
   as its Python text groups them: one graph convolution, the readout, one column of scores, the regularisation loss. -/
module

public import proofs.«01_k».proof.Proof.Gen.ReferenceIdeal.Run
public import Idealize.ShloMosaic.Lib.Pointwise

@[expose] public section

noncomputable section

namespace Cert.ReferenceIdeal.Model

open Cert.ReferenceIdeal Cert.ReferenceIdeal.Gen Idealize.ShloMosaic Idealize.ShloMosaic.TcCoe
open scoped BigOperators

section Steps

variable {F : FTy → Type} [FloatOps F]

/-- One graph convolution: `relu (a · (x · w))`. -/
def hidden (x : FVec F S1x1x10000x128 .f32) (a : FVec F S1x1x10000x10000 .f32) (w : FVec F S1x128x64 .f32) : FVec F S1x10000x64 .f32 :=
  maximumf (broadcastInDim S1x10000x64 ![1, 2] bcast_S10000x64_S1x10000x64_1_2
      (Host.dotGeneral dot_S10000x10000_S10000x64_S10000x64_1_0_0_1_n_n none
        (shapeCast _ (shapeCast _ a shapeCasts_S1x1x10000x10000_S1x10000x10000) shapeCasts_S1x10000x10000_S10000x10000)
        (shapeCast _ (Host.dotGeneral dot_S1x10000x128_S128x64_S1x10000x64_2_0_01_1_n_n none
          (shapeCast _ x shapeCasts_S1x1x10000x128_S1x10000x128) (shapeCast _ w shapeCasts_S1x128x64_S128x64))
          shapeCasts_S1x10000x64_S10000x64)))
    (broadcastInDim S1x10000x64 ![] bcast_S_S1x10000x64 (constant S_ .f32 0x00000000#32))

/-- The readout: the mean of a hidden array over the nodes, through `1 / (1 + exp (-·))`. -/
def readout (h : FVec F S1x10000x64 .f32) : FVec F S1x64 .f32 :=
  Host.divf (broadcastInDim S1x64 ![] bcast_S_S1x64 (constant S_ .f32 0x3F800000#32))
    (addf (broadcastInDim S1x64 ![] bcast_S_S1x64 (constant S_ .f32 0x3F800000#32))
      (Host.exp (Host.negf (Host.divf (Host.reduceAdd h (constant S_ .f32 0x00000000#32) reducesTo_S1x10000x64_S1x64_d1 h_S_)
        (broadcastInDim S1x64 ![] bcast_S_S1x64 (constant S_ .f32 0x461C4000#32))))))

/-- One discriminator output: the bilinear form of a readout and a hidden array, plus its bias, plus the sample bias. -/
def logit (w : FVec F S64x64 .f32) (b : FVec F S_ .f32) (s : FVec F S1x10000 .f32) (r : FVec F S1x64 .f32) (h : FVec F S1x10000x64 .f32) :
    FVec F S1x10000 .f32 :=
  addf (addf (Host.dotGeneral dot_S1x10000x64_S64x1x10000_S1x10000_2_0_n_n_01_12 none
      (broadcastInDim S1x10000x64 ![0, 1, 2] bcast_S1x1x64_S1x10000x64_0_1_2 (broadcastInDim S1x1x64 ![0, 2] bcast_S1x64_S1x1x64_0_2 r))
      (Host.dotGeneral dot_S64x64_S1x10000x64_S64x1x10000_0_2_1_01_n_n none w h))
    (broadcastInDim S1x10000 ![] bcast_S_S1x10000 b)) s

/-- One relation's logits: the outputs of the features, then those of the shuffled features. -/
def logits (w : FVec F S64x64 .f32) (b : FVec F S_ .f32) (s s' : FVec F S1x10000 .f32) (h h' : FVec F S1x10000x64 .f32) :
    FVec F S1x1x20000 .f32 :=
  broadcastInDim S1x1x20000 ![1, 2] bcast_S1x20000_S1x1x20000_1_2
    (concatenate S1x20000 1 [⟨S1x10000, logit w b s (readout h) h⟩, ⟨S1x10000, logit w b s' (readout h) h'⟩]
      concatenates_S1x10000_S1x10000_S1x20000_d1)

/-- The sum of the squared differences of `e` and the mean of two hidden arrays. -/
def loss (e h h' : FVec F S1x10000x64 .f32) : FVec F S_ .f32 :=
  let d := subf e (broadcastInDim S1x10000x64 ![1, 2] bcast_S10000x64_S1x10000x64_1_2
    (Host.divf (Host.reduceAdd (concatenate S2x10000x64 0 [⟨S1x10000x64, h⟩, ⟨S1x10000x64, h'⟩]
        concatenates_S1x10000x64_S1x10000x64_S2x10000x64_d0) (constant S_ .f32 0x00000000#32) reducesTo_S2x10000x64_S10000x64_d0 h_S_)
      (broadcastInDim S10000x64 ![] bcast_S_S10000x64 (constant S_ .f32 0x40000000#32))))
  Host.reduceAdd (mulf d d) (constant S_ .f32 0x00000000#32) reducesTo_S1x10000x64_S_d0_1_2 h_S_

/-- The hidden array of relation 0. -/
def hidden0 (x : FVec F S2x1x10000x128 .f32) (a : FVec F S2x1x10000x10000 .f32) (w : FVec F S2x128x64 .f32) : FVec F S1x10000x64 .f32 :=
  hidden (extractStridedSlice S1x1x10000x128 ![0, 0, 0, 0] x slices_S2x1x10000x128_S1x1x10000x128_0_0_0_0)
    (extractStridedSlice S1x1x10000x10000 ![0, 0, 0, 0] a slices_S2x1x10000x10000_S1x1x10000x10000_0_0_0_0)
    (extractStridedSlice S1x128x64 ![0, 0, 0] w slices_S2x128x64_S1x128x64_0_0_0)

/-- The hidden array of relation 1. -/
def hidden1 (x : FVec F S2x1x10000x128 .f32) (a : FVec F S2x1x10000x10000 .f32) (w : FVec F S2x128x64 .f32) : FVec F S1x10000x64 .f32 :=
  hidden (extractStridedSlice S1x1x10000x128 ![1, 0, 0, 0] x slices_S2x1x10000x128_S1x1x10000x128_1_0_0_0)
    (extractStridedSlice S1x1x10000x10000 ![1, 0, 0, 0] a slices_S2x1x10000x10000_S1x1x10000x10000_1_0_0_0)
    (extractStridedSlice S1x128x64 ![1, 0, 0] w slices_S2x128x64_S1x128x64_1_0_0)

/-- The first result: the two relations' logits, one above the other. -/
def outLogits (x : FVec F S2x1x10000x128 .f32) (a : FVec F S2x1x10000x10000 .f32) (x' : FVec F S2x1x10000x128 .f32) (s s' : FVec F S1x10000 .f32)
    (wg : FVec F S2x128x64 .f32) (w : FVec F S64x64 .f32) (b : FVec F S_ .f32) : FVec F S2x1x20000 .f32 :=
  concatenate S2x1x20000 0 [⟨S1x1x20000, logits w b s s' (hidden0 x a wg) (hidden0 x' a wg)⟩,
    ⟨S1x1x20000, logits w b s s' (hidden1 x a wg) (hidden1 x' a wg)⟩] concatenates_S1x1x20000_S1x1x20000_S2x1x20000_d0

/-- The second result: the loss of the features less that of the shuffled features. -/
def outLoss (x : FVec F S2x1x10000x128 .f32) (a : FVec F S2x1x10000x10000 .f32) (x' : FVec F S2x1x10000x128 .f32)
    (wg : FVec F S2x128x64 .f32) (e : FVec F S1x10000x64 .f32) : FVec F S_ .f32 :=
  subf (loss e (hidden0 x a wg) (hidden1 x a wg)) (loss e (hidden0 x' a wg) (hidden1 x' a wg))

/-- The first result at equal arguments. -/
theorem outLogits_congr {x₁ x₂ : FVec F S2x1x10000x128 .f32} {a₁ a₂ : FVec F S2x1x10000x10000 .f32} {y₁ y₂ : FVec F S2x1x10000x128 .f32}
    {s₁ s₂ t₁ t₂ : FVec F S1x10000 .f32} {g₁ g₂ : FVec F S2x128x64 .f32} {w₁ w₂ : FVec F S64x64 .f32} {b₁ b₂ : FVec F S_ .f32}
    (hx : x₁ = x₂) (ha : a₁ = a₂) (hy : y₁ = y₂) (hs : s₁ = s₂) (ht : t₁ = t₂) (hg : g₁ = g₂) (hw : w₁ = w₂) (hb : b₁ = b₂) :
    outLogits x₁ a₁ y₁ s₁ t₁ g₁ w₁ b₁ = outLogits x₂ a₂ y₂ s₂ t₂ g₂ w₂ b₂ := by
  rw [hx, ha, hy, hs, ht, hg, hw, hb]

/-- The second result at equal arguments. -/
theorem outLoss_congr {x₁ x₂ : FVec F S2x1x10000x128 .f32} {a₁ a₂ : FVec F S2x1x10000x10000 .f32} {y₁ y₂ : FVec F S2x1x10000x128 .f32}
    {g₁ g₂ : FVec F S2x128x64 .f32} {e₁ e₂ : FVec F S1x10000x64 .f32}
    (hx : x₁ = x₂) (ha : a₁ = a₂) (hy : y₁ = y₂) (hg : g₁ = g₂) (he : e₁ = e₂) :
    outLoss x₁ a₁ y₁ g₁ e₁ = outLoss x₂ a₂ y₂ g₂ e₂ := by
  rw [hx, ha, hy, hg, he]

variable (m : (ℓ : Loc nD τ sig) → Buf (Elt F) ℓ) (c : Dev nD)

/-- An argument's contents at launch. -/
abbrev arg (b : Ref sig .tc) : Buf (Elt F) ((c.tc : Thread nD τ).loc b) := m ((c.tc : Thread nD τ).loc b)

set_option maxRecDepth 8192 in
/-- The reference's run leaves the logits in its first result. -/
theorem out0_eq : Value.res_out0 m c = outLogits (arg m c main_arg0) (arg m c main_arg1) (arg m c main_arg2) (arg m c main_arg5) (arg m c main_arg6)
    (arg m c main_arg7) (arg m c main_arg8) (arg m c main_arg9) := rfl

set_option maxRecDepth 8192 in
/-- The reference's run leaves the loss in its second result. -/
theorem out1_eq : Value.res_out1 m c = outLoss (arg m c main_arg0) (arg m c main_arg1) (arg m c main_arg2) (arg m c main_arg7) (arg m c main_arg10) := rfl

end Steps

/-! ## At an index, over the extended reals -/

/-- A hidden array: the nonnegative part of `a · (x · w)`. -/
theorem hidden_apply (x : FVec Ideal S1x1x10000x128 .f32) (a : FVec Ideal S1x1x10000x10000 .f32) (w : FVec Ideal S1x128x64 .f32)
    (n : Fin 10000) (k : Fin 64) :
    hidden x a w (ix3 0 n k) = max (∑ j : Fin 10000, a (ix4 0 0 n j) * ∑ i : Fin 128, x (ix4 0 0 j i) * w (ix3 0 i k)) 0 := by
  pointwise [hidden]

/-- The hidden array of relation 0, in the arguments. -/
theorem hidden0_apply (x : FVec Ideal S2x1x10000x128 .f32) (a : FVec Ideal S2x1x10000x10000 .f32) (w : FVec Ideal S2x128x64 .f32)
    (n : Fin 10000) (k : Fin 64) :
    hidden0 x a w (ix3 0 n k) = max (∑ j : Fin 10000, a (ix4 0 0 n j) * ∑ i : Fin 128, x (ix4 0 0 j i) * w (ix3 0 i k)) 0 := by
  rw [hidden0, hidden_apply]; pointwise []

/-- The hidden array of relation 1, in the arguments. -/
theorem hidden1_apply (x : FVec Ideal S2x1x10000x128 .f32) (a : FVec Ideal S2x1x10000x10000 .f32) (w : FVec Ideal S2x128x64 .f32)
    (n : Fin 10000) (k : Fin 64) :
    hidden1 x a w (ix3 0 n k) = max (∑ j : Fin 10000, a (ix4 1 0 n j) * ∑ i : Fin 128, x (ix4 1 0 j i) * w (ix3 1 i k)) 0 := by
  rw [hidden1, hidden_apply]; pointwise []

/-- A readout: `1 / (1 + exp (-mean))`, the mean the sum over the nodes divided by their number. -/
theorem readout_apply (h : FVec Ideal S1x10000x64 .f32) (k : Fin 64) :
    readout h (ix2 0 k)
      = Ideal.div 1 (1 + Ideal.exp (-Ideal.div (∑ n : Fin 10000, h (ix3 0 n k)) (Ideal.ofBits .f32 0x461C4000#32))) := by
  pointwise [readout]

/-- A discriminator output: the bilinear form, contracted with the hidden array first, plus the two biases. -/
theorem logit_apply (w : FVec Ideal S64x64 .f32) (b : FVec Ideal S_ .f32) (s : FVec Ideal S1x10000 .f32) (r : FVec Ideal S1x64 .f32)
    (h : FVec Ideal S1x10000x64 .f32) (n : Fin 10000) :
    logit w b s r h (ix2 0 n) = (∑ k : Fin 64, r (ix2 0 k) * ∑ j : Fin 64, w (ix2 j k) * h (ix3 0 n j)) + b ix0 + s (ix2 0 n) := by
  pointwise [logit]

/-- A relation's logits: the first half from the features, the second from the shuffled features. -/
theorem logits_apply (w : FVec Ideal S64x64 .f32) (b : FVec Ideal S_ .f32) (s s' : FVec Ideal S1x10000 .f32)
    (h h' : FVec Ideal S1x10000x64 .f32) (n : Fin 20000) :
    logits w b s s' h h' (ix3 0 0 n)
      = if hn : n.val < 10000 then logit w b s (readout h) h (ix2 0 ⟨n.val, hn⟩)
        else logit w b s' (readout h) h' (ix2 0 ⟨n.val - 10000, by have := n.isLt; omega⟩) := by
  pointwise [logits]

/-- The first result's graph `g` is relation `g`'s logits. -/
theorem outLogits_apply (x x' : FVec Ideal S2x1x10000x128 .f32) (a : FVec Ideal S2x1x10000x10000 .f32) (s s' : FVec Ideal S1x10000 .f32)
    (wg : FVec Ideal S2x128x64 .f32) (w : FVec Ideal S64x64 .f32) (b : FVec Ideal S_ .f32) (n : Fin 20000) :
    outLogits x a x' s s' wg w b (ix3 0 0 n) = logits w b s s' (hidden0 x a wg) (hidden0 x' a wg) (ix3 0 0 n)
      ∧ outLogits x a x' s s' wg w b (ix3 1 0 n) = logits w b s s' (hidden1 x a wg) (hidden1 x' a wg) (ix3 0 0 n) := by
  constructor <;> pointwise [outLogits]

/-- A loss: the sum over nodes and columns of the squared difference of `e` and the mean of the two hidden arrays. -/
theorem loss_apply (e h h' : FVec Ideal S1x10000x64 .f32) :
    loss e h h' ix0 = ∑ n : Fin 10000, ∑ k : Fin 64,
      (e (ix3 0 n k) - Ideal.div (h (ix3 0 n k) + h' (ix3 0 n k)) (Ideal.ofBits .f32 0x40000000#32))
        * (e (ix3 0 n k) - Ideal.div (h (ix3 0 n k) + h' (ix3 0 n k)) (Ideal.ofBits .f32 0x40000000#32)) := by
  pointwise [loss]
  simp only [Finset.univ_unique, Finset.sum_singleton, Fin.default_eq_zero]

end Cert.ReferenceIdeal.Model

end
-- ==== Proof.Algebra.lean ====
/- The extended-real algebra the equality rests on: finite values, when a product distributes over a sum, and the
   program's constants. -/
module

public import Idealize.ShloMosaic.Lib.Pointwise

@[expose] public section

noncomputable section

namespace Cert.Algebra

open Idealize.ShloMosaic
open scoped BigOperators

/-- A finite value. -/
def IsReal (x : EReal) : Prop := ∃ r : ℝ, x = (r : EReal)

/-- A product of reals is real. -/
theorem real_mul {x y : EReal} : IsReal x → IsReal y → IsReal (x * y) := by
  rintro ⟨a, rfl⟩ ⟨b, rfl⟩; exact ⟨a * b, (EReal.coe_mul a b).symm⟩

/-- A finite sum of reals is real. -/
theorem real_sum {ι : Type} (s : Finset ι) (f : ι → EReal) (h : ∀ i ∈ s, IsReal (f i)) : IsReal (∑ i ∈ s, f i) :=
  Finset.sum_induction f IsReal (by rintro _ _ ⟨a, rfl⟩ ⟨b, rfl⟩; exact ⟨a + b, (EReal.coe_add a b).symm⟩) ⟨0, rfl⟩ h

/-- The positive part of a real is real. -/
theorem real_max_zero {x : EReal} : IsReal x → IsReal (max x 0) := by
  rintro ⟨a, rfl⟩; exact ⟨max a 0, by rw [← EReal.coe_zero]; exact (EReal.coe_strictMono.monotone.map_max).symm⟩

/-- A value whose absolute value is below `⊤` is finite. -/
theorem real_of_abs_lt {x : EReal} (h : max x (-x) < ⊤) : IsReal x := by
  induction x with
  | bot => simp at h
  | top => simp at h
  | coe r => exact ⟨r, rfl⟩

/-- A finite nonnegative factor distributes over a finite sum of any values. -/
theorem mul_sum {ι : Type} (s : Finset ι) (f : ι → EReal) {x : EReal} (hx : IsReal x) (h0 : 0 ≤ x) :
    x * ∑ i ∈ s, f i = ∑ i ∈ s, x * f i := by
  classical
  induction s using Finset.induction_on with
  | empty => simp
  | insert a s ha ih =>
    obtain ⟨r, rfl⟩ := hx
    rw [Finset.sum_insert ha, Finset.sum_insert ha, ← ih]
    exact EReal.left_distrib_of_nonneg_of_ne_top h0 (EReal.coe_ne_top r) _ _

/-- A bilinear form over finite nonnegative vectors may be contracted with either vector first, whatever the matrix holds. -/
theorem bilinear {K J : ℕ} (h : Fin J → EReal) (r : Fin K → EReal) (w : Fin J → Fin K → EReal)
    (hh : ∀ j, IsReal (h j) ∧ 0 ≤ h j) (hr : ∀ k, IsReal (r k) ∧ 0 ≤ r k) :
    ∑ j, h j * ∑ k, r k * w j k = ∑ k, r k * ∑ j, w j k * h j := by
  have e1 : ∀ j, h j * ∑ k, r k * w j k = ∑ k, h j * (r k * w j k) := fun j => mul_sum _ _ (hh j).1 (hh j).2
  have e2 : ∀ k, r k * ∑ j, w j k * h j = ∑ j, r k * (w j k * h j) := fun k => mul_sum _ _ (hr k).1 (hr k).2
  simp only [e1, e2]
  rw [Finset.sum_comm]
  refine Finset.sum_congr rfl fun k _ => Finset.sum_congr rfl fun j _ => ?_
  rw [mul_comm (h j), mul_assoc]

/-- The literal that counts the nodes. -/
theorem const_nodes : Ideal.ofBits .f32 0x461C4000#32 = ((10000 : ℝ) : EReal) := by
  simp [Ideal.ofBits, Ideal.ieee]; rw [← EReal.coe_mul]; norm_num
/-- The literal one half. -/
theorem const_half : Ideal.ofBits .f32 0x3F000000#32 = ((1 / 2 : ℝ) : EReal) := by
  simp [Ideal.ofBits, Ideal.ieee]; rw [← EReal.coe_mul]; norm_num
/-- The literal two. -/
theorem const_two : Ideal.ofBits .f32 0x40000000#32 = ((2 : ℝ) : EReal) := by
  simp [Ideal.ofBits, Ideal.ieee]; rw [← EReal.coe_mul]; norm_num
/-- The literal infinity. -/
theorem const_inf : Ideal.ofBits .f32 0x7F800000#32 = ⊤ := by
  simp [Ideal.ofBits, Ideal.ieee]

/-- A finite value over a finite nonzero one is finite. -/
theorem real_div {x : EReal} (hx : IsReal x) {y : ℝ} (hy : y ≠ 0) : IsReal (Ideal.div x (y : EReal)) := by
  obtain ⟨a, rfl⟩ := hx
  refine ⟨a * y⁻¹, ?_⟩
  rw [Ideal.div, if_neg (by exact_mod_cast hy), EReal.coe_mul, EReal.coe_inv]

/-- The logistic of a finite value is finite and nonnegative. -/
theorem logistic_real {x : EReal} (hx : IsReal x) : IsReal (Ideal.logistic x) ∧ 0 ≤ Ideal.logistic x := by
  obtain ⟨a, rfl⟩ := hx
  have h : Ideal.logistic (a : EReal) = ((1 * (1 + Real.exp (-a))⁻¹ : ℝ) : EReal) := by
    have hp : (1 + Real.exp (-a)) ≠ 0 := by positivity
    have e : (1 : EReal) + Ideal.exp (-(a : EReal)) = ((1 + Real.exp (-a) : ℝ) : EReal) := by
      rw [← EReal.coe_neg]; exact (EReal.coe_add 1 (Real.exp (-a))).symm
    rw [Ideal.logistic, e, Ideal.div, if_neg (by exact_mod_cast hp), EReal.coe_mul, EReal.coe_inv, EReal.coe_one]
  rw [h]
  exact ⟨⟨_, rfl⟩, by exact_mod_cast (by positivity)⟩

/-- Half of a value is the value over two. -/
theorem half_mul (x : EReal) : Ideal.ofBits .f32 0x3F000000#32 * x = Ideal.div x (Ideal.ofBits .f32 0x40000000#32) := by
  rw [const_half, const_two, Ideal.div, if_neg (by norm_num), mul_comm, ← EReal.coe_inv]
  norm_num

end Cert.Algebra

end
-- ==== Proof.Equality.lean ====
/- The equation of the two programs' values, over the extended reals: the kernel's scores and regulariser are the reference's
   logits and losses, for finite features, adjacency and weights. -/
module

public import proofs.«01_k».proof.Proof.KernelValue
public import proofs.«01_k».proof.Proof.Reference
public import proofs.«01_k».proof.Proof.Algebra

@[expose] public section

set_option maxRecDepth 16384

noncomputable section

namespace Cert.Equality

open Idealize.ShloMosaic Idealize.ShloMosaic.TcCoe
open Cert.Algebra
open Cert.KernelIdeal
open Cert.KernelIdeal.Run (hid hidAt hid_apply arg)
open Cert.KernelIdeal.Epilogue (left0 left1 right0 right1 score scoreAt)
open Cert.KernelIdeal.Propagate (exists_ix3)
open scoped BigOperators

/-- Finite in every entry. -/
def AllReal {s : Shape} (x : FVec Ideal s .f32) : Prop := ∀ i, IsReal (x i)

/-- A hidden array's entries are finite and nonnegative. -/
def Good (h : FVec Ideal S1x10000x64 .f32) : Prop := ∀ n k, IsReal (h (ix3 0 n k)) ∧ 0 ≤ h (ix3 0 n k)

variable {x : FVec Ideal S2x1x10000x128 .f32} {a : FVec Ideal S2x1x10000x10000 .f32} {w : FVec Ideal S2x128x64 .f32}

/-- From real arguments the first graph's hidden entries are real and not negative. -/
theorem good_hidden0 (hx : AllReal x) (ha : AllReal a) (hw : AllReal w) : Good (ReferenceIdeal.Model.hidden0 (F := Ideal) x a w) := fun n k => by
  rw [ReferenceIdeal.Model.hidden0_apply]
  exact ⟨real_max_zero (real_sum _ _ fun j _ => real_mul (ha _) (real_sum _ _ fun i _ => real_mul (hx _) (hw _))), le_max_right _ _⟩

/-- From real arguments the second graph's hidden entries are real and not negative. -/
theorem good_hidden1 (hx : AllReal x) (ha : AllReal a) (hw : AllReal w) : Good (ReferenceIdeal.Model.hidden1 (F := Ideal) x a w) := fun n k => by
  rw [ReferenceIdeal.Model.hidden1_apply]
  exact ⟨real_max_zero (real_sum _ _ fun j _ => real_mul (ha _) (real_sum _ _ fun i _ => real_mul (hx _) (hw _))), le_max_right _ _⟩

/-! ## Scores and losses -/

/-- The kernel's readout is the reference's. -/
theorem readout_eq (h : FVec Ideal S1x10000x64 .f32) (j : Fin 64) : Epilogue.readout h j = ReferenceIdeal.Model.readout (F := Ideal) h (ix2 0 j) :=
  (ReferenceIdeal.Model.readout_apply h j).symm

/-- A readout of finite entries is finite and nonnegative. -/
theorem readout_real {h : FVec Ideal S1x10000x64 .f32} (hh : Good h) (j : Fin 64) : IsReal (Epilogue.readout h j) ∧ 0 ≤ Epilogue.readout h j := by
  unfold Epilogue.readout
  rw [const_nodes]
  exact logistic_real (real_div (real_sum _ _ fun m _ => (hh m j).1) (by norm_num))

/-- A kernel score plus the sample bias plus the bias is the reference's logit: the weights may be contracted with the readout
    first, as the kernel does, or with the hidden array first, as the reference does. -/
theorem logit_eq {h h' : FVec Ideal S1x10000x64 .f32} (hh : Good h) (hh' : Good h') (w : FVec Ideal S64x64 .f32) (b : FVec Ideal S_ .f32)
    (s : FVec Ideal S1x10000 .f32) (n : Fin 10000) :
    (score w h h' n + s (ix2 0 n)) + b ix0 = ReferenceIdeal.Model.logit (F := Ideal) w b s (ReferenceIdeal.Model.readout (F := Ideal) h) h' (ix2 0 n) := by
  rw [ReferenceIdeal.Model.logit_apply, add_right_comm]
  unfold score
  rw [bilinear (fun k => h' (ix3 0 n k)) (Epilogue.readout h) (fun k j => w (ix2 k j)) (hh' n) (readout_real hh)]
  simp only [readout_eq]

/-- The kernel's loss is the reference's: half of a sum is the sum over two. -/
theorem loss_eq (e h h' : FVec Ideal S1x10000x64 .f32) : Epilogue.loss e h h' = ReferenceIdeal.Model.loss (F := Ideal) e h h' ix0 := by
  rw [ReferenceIdeal.Model.loss_apply]
  unfold Epilogue.loss
  simp only [half_mul]

/-! ## The hidden arrays -/

variable (m : (ℓ : Loc nD τ sig) → Buf (Elt Ideal) ℓ) (c : Dev nD)

/-- A left column of the hidden array is a convolution of the features. -/
theorem hidAt_left (x s : FVec Ideal S2x1x10000x128 .f32) (a : FVec Ideal S2x1x10000x10000 .f32) (w : FVec Ideal S2x128x64 .f32)
    (g : Fin 2) (n : Fin 10000) (k : Fin 64) (h : k.val < 128) : hidAt x s a w g n ⟨k.val, h⟩
      = max (∑ j : Fin 10000, a (ix4 g 0 n j) * ∑ i : Fin 128, x (ix4 g 0 j i) * w (ix3 g i k)) 0 := by
  unfold hidAt
  rw [if_pos k.isLt]
  have e : (⟨k.val % 64, Nat.mod_lt _ (by decide)⟩ : Fin 64) = k := Fin.ext (Nat.mod_eq_of_lt k.isLt)
  simp only [e]

/-- A right column is one of the shuffled features. -/
theorem hidAt_right (x s : FVec Ideal S2x1x10000x128 .f32) (a : FVec Ideal S2x1x10000x10000 .f32) (w : FVec Ideal S2x128x64 .f32)
    (g : Fin 2) (n : Fin 10000) (k : Fin 64) (h : 64 + k.val < 128) : hidAt x s a w g n ⟨64 + k.val, h⟩
      = max (∑ j : Fin 10000, a (ix4 g 0 n j) * ∑ i : Fin 128, s (ix4 g 0 j i) * w (ix3 g i k)) 0 := by
  unfold hidAt
  rw [if_neg (Nat.not_lt.2 (Nat.le_add_right 64 k.val))]
  have e : (⟨(64 + k.val) % 64, Nat.mod_lt _ (by decide)⟩ : Fin 64) = k := Fin.ext (by have := k.isLt; simp only; omega)
  simp only [e]

/-- The kernel's left half of the first graph is the reference's hidden layer of the features. -/
theorem left0_eq : left0 (F := Ideal) (hid m c) = ReferenceIdeal.Model.hidden0 (F := Ideal) (arg m c main_arg0) (arg m c main_arg1) (arg m c main_arg7) := by
  funext (y : S1x10000x64.Idx)
  obtain ⟨n, k, rfl⟩ := exists_ix3 y
  rw [Epilogue.left0_apply, hid_apply, ReferenceIdeal.Model.hidden0_apply, hidAt_left]

/-- Its right half is that of the shuffled features. -/
theorem right0_eq : right0 (F := Ideal) (hid m c) = ReferenceIdeal.Model.hidden0 (F := Ideal) (arg m c main_arg2) (arg m c main_arg1) (arg m c main_arg7) := by
  funext (y : S1x10000x64.Idx)
  obtain ⟨n, k, rfl⟩ := exists_ix3 y
  rw [Epilogue.right0_apply, hid_apply, ReferenceIdeal.Model.hidden0_apply, hidAt_right]

/-- The left half of the second graph is the reference's hidden layer of the features. -/
theorem left1_eq : left1 (F := Ideal) (hid m c) = ReferenceIdeal.Model.hidden1 (F := Ideal) (arg m c main_arg0) (arg m c main_arg1) (arg m c main_arg7) := by
  funext (y : S1x10000x64.Idx)
  obtain ⟨n, k, rfl⟩ := exists_ix3 y
  rw [Epilogue.left1_apply, hid_apply, ReferenceIdeal.Model.hidden1_apply, hidAt_left]

/-- Its right half is that of the shuffled features. -/
theorem right1_eq : right1 (F := Ideal) (hid m c) = ReferenceIdeal.Model.hidden1 (F := Ideal) (arg m c main_arg2) (arg m c main_arg1) (arg m c main_arg7) := by
  funext (y : S1x10000x64.Idx)
  obtain ⟨n, k, rfl⟩ := exists_ix3 y
  rw [Epilogue.right1_apply, hid_apply, ReferenceIdeal.Model.hidden1_apply, hidAt_right]

/-! ## The results -/

/-- The kernel's first result is the reference's, of the kernel's arguments. -/
theorem out0_eq (hx : AllReal (s := S2x1x10000x128) (arg m c main_arg0)) (ha : AllReal (s := S2x1x10000x10000) (arg m c main_arg1))
    (hs : AllReal (s := S2x1x10000x128) (arg m c main_arg2)) (hw : AllReal (s := S2x128x64) (arg m c main_arg7)) :
    Run.X4 m c main_v12 = ReferenceIdeal.Model.outLogits (F := Ideal) (arg m c main_arg0) (arg m c main_arg1) (arg m c main_arg2) (arg m c main_arg5)
      (arg m c main_arg6) (arg m c main_arg7) (arg m c main_arg8) (arg m c main_arg9) := by
  funext (y : S2x1x20000.Idx)
  obtain ⟨g, n, rfl⟩ : ∃ (g : Fin 2) (n : Fin 20000), y = ix3 g 0 n := by
    refine ⟨y 0, y 2, ?_⟩
    funext a
    match a with
    | ⟨0, _⟩ => rfl
    | ⟨1, _⟩ => exact Subsingleton.elim (α := Fin 1) _ _
    | ⟨2, _⟩ => rfl
  refine (Run.out0_apply m c g n).trans ?_
  have gx0 := good_hidden0 hx ha hw
  have gs0 := good_hidden0 hs ha hw
  have gx1 := good_hidden1 hx ha hw
  have gs1 := good_hidden1 hs ha hw
  have hq (q r : ℕ) (h : r < 4) (h' : q < 4) (e : q = r) : (⟨q, h'⟩ : Fin 4) = ⟨r, h⟩ := Fin.ext e
  have hn20 := n.isLt
  by_cases hn : n.val < 10000
  · have en : (⟨n.val % 10000, Nat.mod_lt _ (by decide)⟩ : Fin 10000) = ⟨n.val, hn⟩ := Fin.ext (Nat.mod_eq_of_lt hn)
    rw [dif_pos hn, en]
    match g with
    | 0 =>
      rw [(ReferenceIdeal.Model.outLogits_apply _ _ _ _ _ _ _ _ n).1, ReferenceIdeal.Model.logits_apply, dif_pos hn,
        hq _ 0 (by decide) _ (by simp only [Fin.val_zero]; omega)]
      refine Eq.trans ?_ (logit_eq gx0 gx0 _ _ _ _)
      rw [← left0_eq]; rfl
    | 1 =>
      rw [(ReferenceIdeal.Model.outLogits_apply _ _ _ _ _ _ _ _ n).2, ReferenceIdeal.Model.logits_apply, dif_pos hn,
        hq _ 2 (by decide) _ (by simp only [Fin.val_one]; omega)]
      refine Eq.trans ?_ (logit_eq gx1 gx1 _ _ _ _)
      rw [← left1_eq]; rfl
  · have en : (⟨n.val % 10000, Nat.mod_lt _ (by decide)⟩ : Fin 10000) = ⟨n.val - 10000, by omega⟩ := Fin.ext (by simp only; omega)
    rw [dif_neg hn, en]
    match g with
    | 0 =>
      rw [(ReferenceIdeal.Model.outLogits_apply _ _ _ _ _ _ _ _ n).1, ReferenceIdeal.Model.logits_apply, dif_neg hn,
        hq _ 1 (by decide) _ (by simp only [Fin.val_zero]; omega)]
      refine Eq.trans ?_ (logit_eq gx0 gs0 _ _ _ _)
      rw [← left0_eq, ← right0_eq]; rfl
    | 1 =>
      rw [(ReferenceIdeal.Model.outLogits_apply _ _ _ _ _ _ _ _ n).2, ReferenceIdeal.Model.logits_apply, dif_neg hn,
        hq _ 3 (by decide) _ (by simp only [Fin.val_one]; omega)]
      refine Eq.trans ?_ (logit_eq gx1 gs1 _ _ _ _)
      rw [← left1_eq, ← right1_eq]; rfl

/-- The kernel's second result is the reference's, of the kernel's arguments, whatever they hold. -/
theorem out1_eq : Run.X4 m c main_v13 = ReferenceIdeal.Model.outLoss (F := Ideal) (arg m c main_arg0) (arg m c main_arg1) (arg m c main_arg2)
    (arg m c main_arg7) (arg m c main_arg10) := by
  funext (y : S_.Idx)
  obtain rfl : y = ix0 := funext fun a => a.elim0
  refine (Run.out1_apply m c).trans ?_
  rw [Epilogue.reg_apply, left0_eq, left1_eq, right0_eq, right1_eq, loss_eq, loss_eq]
  rfl

end Cert.Equality

end
-- ==== Proof.Precondition.lean ====
/- The precondition, read at an entry: the features, the shuffled features, the adjacency and the weights are finite. -/
module

public import proofs.«01_k».proof.Defs
public import proofs.«01_k».proof.Proof.Equality

@[expose] public section

set_option maxRecDepth 16384

noncomputable section

namespace Cert.Precondition

open Idealize.ShloMosaic Idealize.ShloMosaic.TcCoe
open Cert.Algebra
open Cert.Equality (AllReal)
open Cert.KernelIdeal
open Cert.KernelIdeal.Run (arg)

/-- The shapes the predicate broadcasts its bound to. -/
theorem facts : Cert.Pre_finite_inputs.Facts := ⟨by decide, by decide, by decide⟩

/-- Where every absolute value compares below the bound, every entry is finite. -/
theorem allReal_of_lt {s : Shape} (x : FVec Ideal s .f32) (h : S_.BroadcastsInDim s (![] : Fin 0 → Fin s.rank))
    (e : cmpf .olt (Host.absf x) (broadcastInDim s ![] h (constant (F := Ideal) S_ .f32 0x7F800000#32)) = fun _ => 1#1) : AllReal x := by
  intro i
  have hi : Ideal.cmp .olt (max (x i) (-(x i))) (Ideal.ofBits .f32 0x7F800000#32) = 1#1 := congrFun e i
  rw [const_inf] at hi
  refine real_of_abs_lt ?_
  by_contra hn
  simp [Ideal.cmp, hn] at hi

/-- The precondition says the four arrays are finite. -/
theorem finite (m : (ℓ : Loc nD τ sig) → Buf (Elt Ideal) ℓ) (h : Cert.Pre_KernelIdeal_finite_inputs (hPre_finite_inputs := facts) m) (c : Dev nD) :
    AllReal (s := S2x1x10000x128) (arg m c main_arg0) ∧ AllReal (s := S2x1x10000x10000) (arg m c main_arg1)
      ∧ AllReal (s := S2x1x10000x128) (arg m c main_arg2) ∧ AllReal (s := S2x128x64) (arg m c main_arg7) :=
  ⟨allReal_of_lt _ facts.bcast_S_S2x1x10000x128 (h c).1, allReal_of_lt _ facts.bcast_S_S2x1x10000x10000 (h c).2.1,
    allReal_of_lt _ facts.bcast_S_S2x1x10000x128 (h c).2.2.1, allReal_of_lt _ facts.bcast_S_S2x128x64 (h c).2.2.2⟩

end Cert.Precondition

end
-- ==== Proof.lean ====
module

public import proofs.«01_k».proof.Defs
public import proofs.«01_k».proof.Proof.Frames
public import proofs.«01_k».proof.Proof.Precondition
public import proofs.«01_k».proof.Proof.Gen.ReferenceIdeal.Run
public import Idealize.ShloMosaic.Lib.Quiescent

@[expose] public section

set_option maxRecDepth 16384

noncomputable section

namespace Cert.Proof

open Idealize.ShloMosaic Idealize.ShloMosaic.TcCoe Idealize.SL.Sem

/-- The reference leaves its arguments unchanged; it has no semaphore. -/
theorem frame_reference : Cert.quiescent_ReferenceIdeal := fun m g _ =>
  (θ_run _ _ _).mono (fun r h => ⟨fun c => (h c).2.2, sem_eq_zero_of_no_sems (by decide) r.2⟩)
    (Cert.ReferenceIdeal.Value.run (F := Ideal) m g)

/-- From finite features, shuffled features, adjacency and weights, the idealized kernel's two results are the reference's. -/
theorem equal : Cert.algebraic_KernelIdeal_ReferenceIdeal_pre_finite_inputs (hPre_finite_inputs := Precondition.facts) := by
  intro m g m' g' hpre hargs
  refine ⟨fun c => KernelIdeal.Run.X4 m c KernelIdeal.main_v12, fun c => KernelIdeal.Run.X4 m c KernelIdeal.main_v13,
    (θ_run _ _ _).mono (fun _ h => h.1) (KernelIdeal.Run.run_read m g),
    (θ_run _ _ _).mono (fun r h c => ?_) (Cert.ReferenceIdeal.Value.run (F := Ideal) m' g')⟩
  obtain ⟨hx, ha, hs, hw⟩ := Precondition.finite m hpre c
  obtain ⟨h0, h1, h2, -, -, h5, h6, h7, h8, h9, h10⟩ := hargs c
  refine ⟨(h c).1.trans ?_, (h c).2.1.trans ?_, (h c).2.2⟩
  · refine (ReferenceIdeal.Model.out0_eq m' c).trans (Eq.trans ?_ (Equality.out0_eq m c hx ha hs hw).symm)
    exact ReferenceIdeal.Model.outLogits_congr (F := Ideal) h0 h1 h2 h5 h6 h7 h8 h9
  · refine (ReferenceIdeal.Model.out1_eq m' c).trans (Eq.trans ?_ (Equality.out1_eq m c).symm)
    exact ReferenceIdeal.Model.outLoss_congr (F := Ideal) h0 h1 h2 h7 h10

/-- Every stated claim. -/
theorem claim : Cert.Claim :=
  ⟨Cert.Kernel.Gen.facts, Cert.KernelIdeal.Gen.facts, Cert.ReferenceIdeal.Gen.facts, Precondition.facts,
    Frames.kernel_bits, Frames.kernel_ideal, fun m g _ => Frames.kernel (F := Ideal) m g, frame_reference,
    fun m g _ => frame_reference m g trivial, trivial, equal⟩

end Cert.Proof

end
